-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)

def algebraic_KernelIdeal_ReferenceIdeal_on_tokens_pre_finite [hKernelIdeal : Cert.KernelIdeal.Facts] [hReferenceIdeal : Cert.ReferenceIdeal.Facts] [hPre_finite : Cert.Pre_finite.Facts] [hOn_tokens : Cert.On_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8448, 4096]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v18) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8448, 4096]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_tokens2 [hKernel2Ideal : Cert.Kernel2Ideal.Facts] [hReference2Ideal : Cert.Reference2Ideal.Facts] [hOn_tokens2 : Cert.On_tokens2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![8448, 11008]⟩ : Shape).Idx, (Cert.On_tokens2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Kernel2Ideal.nD Cert.Kernel2Ideal.τ).loc Cert.Kernel2Ideal.main_v6_0) i = v0 c i)
          ∧ (∀ i : (⟨3, ![6, 8, 11008]⟩ : Shape).Idx, (Cert.On_tokens2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 i = 1#1 → r.2.mem ((c.tc : Thread Cert.Kernel2Ideal.nD Cert.Kernel2Ideal.τ).loc Cert.Kernel2Ideal.main_v6_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![8448, 11008]⟩ : Shape).Idx, (Cert.On_tokens2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Reference2Ideal.nD Cert.Reference2Ideal.τ).loc Cert.Reference2Ideal.main_v43) i = v0 c i)
          ∧ (∀ i : (⟨3, ![6, 8, 11008]⟩ : Shape).Idx, (Cert.On_tokens2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 i = 1#1 → r.2.mem ((c.tc : Thread Cert.Reference2Ideal.nD Cert.Reference2Ideal.τ).loc Cert.Reference2Ideal.main_v47) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hOn_tokens : Cert.On_tokens.Facts) (hOn_tokens2 : Cert.On_tokens2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_tokens_pre_finite (hKernelIdeal := hKernelIdeal) (hReferenceIdeal := hReferenceIdeal) (hPre_finite := hPre_finite) (hOn_tokens := hOn_tokens)
    ∧ preserves_Kernel2_Kernel2Ideal
    ∧ algebraic_Kernel2Ideal_Reference2Ideal_on_tokens2 (hKernel2Ideal := hKernel2Ideal) (hReference2Ideal := hReference2Ideal) (hOn_tokens2 := hOn_tokens2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_tokens.lean ====
abbrev S2x4112x16x128 : Shape := ⟨4, ![2, 4112, 16, 128]⟩
abbrev S2x4112x16 : Shape := ⟨3, ![2, 4112, 16]⟩
abbrev S16x128x256 : Shape := ⟨3, ![16, 128, 256]⟩
abbrev S8448x4096 : Shape := ⟨2, ![8448, 4096]⟩
abbrev S_ : Shape := ⟨0, ![]⟩

class Facts : Prop where
  bcast_S_S8448x4096 : S_.BroadcastsInDim S8448x4096 (![] : Fin 0 → Fin S8448x4096.rank)

variable [Facts]

def fn {F : FTy → Type} [FloatOps F] (main_arg0 : FVec F S2x4112x16x128 .f32) (main_arg1 : FVec F S2x4112x16x128 .f32) (main_arg2 : FVec F S2x4112x16x128 .f32) (main_arg3 : FVec F S2x4112x16 .f32) (main_arg4 : FVec F S16x128x256 .f32) : IVec S8448x4096 1 :=
  let main_v0 : IVec S8448x4096 32 := iotaInDim S8448x4096 32 0
  let main_c : IVec S_ 32 := constantI S_ 32 4224#32
  let main_v1 : IVec S8448x4096 32 := broadcastInDim S8448x4096 ![] bcast_S_S8448x4096 main_c
  let main_v2 : IVec S8448x4096 32 := Host.remsi main_v0 main_v1
  let main_c_0 : IVec S_ 32 := constantI S_ 32 112#32
  let main_v3 : IVec S8448x4096 32 := broadcastInDim S8448x4096 ![] bcast_S_S8448x4096 main_c_0
  let main_v4 : IVec S8448x4096 1 := cmpi .sge main_v2 main_v3
  main_v4
-- ==== On_tokens2.lean ====
abbrev S2x4112x4096 : Shape := ⟨3, ![2, 4112, 4096]⟩
abbrev S4096x11008 : Shape := ⟨2, ![4096, 11008]⟩
abbrev S3x11008 : Shape := ⟨2, ![3, 11008]⟩
abbrev S11008 : Shape := ⟨1, ![11008]⟩
abbrev S8448x11008 : Shape := ⟨2, ![8448, 11008]⟩
abbrev S6x8x11008 : Shape := ⟨3, ![6, 8, 11008]⟩
abbrev S_ : Shape := ⟨0, ![]⟩

class Facts : Prop where
  bcast_S_S8448x11008 : S_.BroadcastsInDim S8448x11008 (![] : Fin 0 → Fin S8448x11008.rank)
  bcast_S_S6x8x11008 : S_.BroadcastsInDim S6x8x11008 (![] : Fin 0 → Fin S6x8x11008.rank)

variable [Facts]

def fn {F : FTy → Type} [FloatOps F] (main_arg0 : FVec F S2x4112x4096 .f32) (main_arg1 : FVec F S4096x11008 .f32) (main_arg2 : FVec F S4096x11008 .f32) (main_arg3 : FVec F S3x11008 .f32) (main_arg4 : FVec F S11008 .f32) : IVec S8448x11008 1 × IVec S6x8x11008 1 :=
  let main_v0 : IVec S8448x11008 32 := iotaInDim S8448x11008 32 0
  let main_v1 : IVec S6x8x11008 32 := iotaInDim S6x8x11008 32 0
  let main_v2 : IVec S6x8x11008 32 := iotaInDim S6x8x11008 32 1
  let main_c : IVec S_ 32 := constantI S_ 32 4224#32
  let main_v3 : IVec S8448x11008 32 := broadcastInDim S8448x11008 ![] bcast_S_S8448x11008 main_c
  let main_v4 : IVec S8448x11008 32 := Host.remsi main_v0 main_v3
  let main_c_0 : IVec S_ 32 := constantI S_ 32 112#32
  let main_v5 : IVec S8448x11008 32 := broadcastInDim S8448x11008 ![] bcast_S_S8448x11008 main_c_0
  let main_v6 : IVec S8448x11008 1 := cmpi .sge main_v4 main_v5
  let main_c_1 : IVec S_ 32 := constantI S_ 32 3#32
  let main_v7 : IVec S6x8x11008 32 := broadcastInDim S6x8x11008 ![] bcast_S_S6x8x11008 main_c_1
  let main_v8 : IVec S6x8x11008 32 := Host.remsi main_v1 main_v7
  let main_c_2 : IVec S_ 32 := constantI S_ 32 2#32
  let main_v9 : IVec S6x8x11008 32 := broadcastInDim S6x8x11008 ![] bcast_S_S6x8x11008 main_c_2
  let main_v10 : IVec S6x8x11008 1 := cmpi .eq main_v8 main_v9
  let main_c_3 : IVec S_ 32 := constantI S_ 32 6#32
  let main_v11 : IVec S6x8x11008 32 := broadcastInDim S6x8x11008 ![] bcast_S_S6x8x11008 main_c_3
  let main_v12 : IVec S6x8x11008 1 := cmpi .sge main_v2 main_v11
  let main_v13 : IVec S6x8x11008 1 := andi main_v10 main_v12
  (main_v6, main_v13)
-- ==== Pre_finite.lean ====
abbrev S2x4112x16x128 : Shape := ⟨4, ![2, 4112, 16, 128]⟩
abbrev S2x4112x16 : Shape := ⟨3, ![2, 4112, 16]⟩
abbrev S16x128x256 : Shape := ⟨3, ![16, 128, 256]⟩
abbrev S_ : Shape := ⟨0, ![]⟩

class Facts : Prop where
  bcast_S_S2x4112x16x128 : S_.BroadcastsInDim S2x4112x16x128 (![] : Fin 0 → Fin S2x4112x16x128.rank)
  reducesTo_S2x4112x16x128_S_d0_1_2_3 : S2x4112x16x128.ReducesTo [0, 1, 2, 3] S_
  h_S_ : 0 < S_.numel
  bcast_S_S2x4112x16 : S_.BroadcastsInDim S2x4112x16 (![] : Fin 0 → Fin S2x4112x16.rank)
  reducesTo_S2x4112x16_S_d0_1_2 : S2x4112x16.ReducesTo [0, 1, 2] S_

variable [Facts]

def fn {F : FTy → Type} [FloatOps F] (main_arg0 : FVec F S2x4112x16x128 .f32) (main_arg1 : FVec F S2x4112x16x128 .f32) (main_arg2 : FVec F S2x4112x16x128 .f32) (main_arg3 : FVec F S2x4112x16 .f32) (main_arg4 : FVec F S16x128x256 .f32) : IVec S_ 1 :=
  let main_v0 : FVec F S2x4112x16x128 .f32 := Host.absf main_arg0
  let main_cst : FVec F S_ .f32 := constant S_ .f32 0x7F800000#32
  let main_v1 : FVec F S2x4112x16x128 .f32 := broadcastInDim S2x4112x16x128 ![] bcast_S_S2x4112x16x128 main_cst
  let main_v2 : IVec S2x4112x16x128 1 := cmpf .olt main_v0 main_v1
  let main_c : IVec S_ 1 := constantI S_ 1 1#1
  let main_v3 : IVec S_ 1 := (fun x v => Host.reduce IntOp.andi x v reducesTo_S2x4112x16x128_S_d0_1_2_3 h_S_) main_v2 main_c
  let main_v4 : FVec F S2x4112x16x128 .f32 := Host.absf main_arg1
  let main_cst_0 : FVec F S_ .f32 := constant S_ .f32 0x7F800000#32
  let main_v5 : FVec F S2x4112x16x128 .f32 := broadcastInDim S2x4112x16x128 ![] bcast_S_S2x4112x16x128 main_cst_0
  let main_v6 : IVec S2x4112x16x128 1 := cmpf .olt main_v4 main_v5
  let main_c_1 : IVec S_ 1 := constantI S_ 1 1#1
  let main_v7 : IVec S_ 1 := (fun x v => Host.reduce IntOp.andi x v reducesTo_S2x4112x16x128_S_d0_1_2_3 h_S_) main_v6 main_c_1
  let main_v8 : IVec S_ 1 := andi main_v3 main_v7
  let main_v9 : FVec F S2x4112x16 .f32 := Host.absf main_arg3
  let main_cst_2 : FVec F S_ .f32 := constant S_ .f32 0x7F800000#32
  let main_v10 : FVec F S2x4112x16 .f32 := broadcastInDim S2x4112x16 ![] bcast_S_S2x4112x16 main_cst_2
  let main_v11 : IVec S2x4112x16 1 := cmpf .olt main_v9 main_v10
  let main_c_3 : IVec S_ 1 := constantI S_ 1 1#1
  let main_v12 : IVec S_ 1 := (fun x v => Host.reduce IntOp.andi x v reducesTo_S2x4112x16_S_d0_1_2 h_S_) main_v11 main_c_3
  let main_v13 : IVec S_ 1 := andi main_v8 main_v12
  main_v13
-- ==== Kernel.lean ====
abbrev S2x4112x16x128 : Shape := ⟨4, ![2, 4112, 16, 128]⟩
abbrev S2x4112x16 : Shape := ⟨3, ![2, 4112, 16]⟩
abbrev S16x128x256 : Shape := ⟨3, ![16, 128, 256]⟩
abbrev S2x4112x2048 : Shape := ⟨3, ![2, 4112, 2048]⟩
abbrev S_ : Shape := ⟨0, ![]⟩
abbrev S2x4224x2048 : Shape := ⟨3, ![2, 4224, 2048]⟩
abbrev S8448x2048 : Shape := ⟨2, ![8448, 2048]⟩
abbrev S8448x6144 : Shape := ⟨2, ![8448, 6144]⟩
abbrev S2x4224x16 : Shape := ⟨3, ![2, 4224, 16]⟩
abbrev S16x2x4224 : Shape := ⟨3, ![16, 2, 4224]⟩
abbrev S16x8448 : Shape := ⟨2, ![16, 8448]⟩
abbrev S16x22x1x384 : Shape := ⟨4, ![16, 22, 1, 384]⟩
abbrev S8448x4096 : Shape := ⟨2, ![8448, 4096]⟩
abbrev S384x512 : Shape := ⟨2, ![384, 512]⟩
abbrev S4224x512 : Shape := ⟨2, ![4224, 512]⟩
abbrev S4x11x1x384 : Shape := ⟨4, ![4, 11, 1, 384]⟩
abbrev S4x128x256 : Shape := ⟨3, ![4, 128, 256]⟩
abbrev S384x1024 : Shape := ⟨2, ![384, 1024]⟩
abbrev S384x128 : Shape := ⟨2, ![384, 128]⟩
abbrev S384x1 : Shape := ⟨2, ![384, 1]⟩
abbrev S384x384 : Shape := ⟨2, ![384, 384]⟩
abbrev S1x1x1x384 : Shape := ⟨4, ![1, 1, 1, 384]⟩
abbrev S1x384 : Shape := ⟨2, ![1, 384]⟩
abbrev S384 : Shape := ⟨1, ![384]⟩
abbrev S1x128x256 : Shape := ⟨3, ![1, 128, 256]⟩
abbrev S128x256 : Shape := ⟨2, ![128, 256]⟩
abbrev S384x256 : Shape := ⟨2, ![384, 256]⟩

abbrev nBuf : Space → Nat
  | .hbm => 33
  | .vmem => 14
  | .smem => 0
  | _ => 0

abbrev bufTy : (tb : Table) → Fin (tcTables nBuf tb) → BufTy
  | .hbm, ⟨0, _⟩ => ⟨S2x4112x16x128, .f32⟩
  | .hbm, ⟨1, _⟩ => ⟨S2x4112x16x128, .f32⟩
  | .hbm, ⟨2, _⟩ => ⟨S2x4112x16x128, .f32⟩
  | .hbm, ⟨3, _⟩ => ⟨S2x4112x16, .f32⟩
  | .hbm, ⟨4, _⟩ => ⟨S16x128x256, .f32⟩
  | .hbm, ⟨5, _⟩ => ⟨S2x4112x2048, .f32⟩
  | .hbm, ⟨6, _⟩ => ⟨S_, .i32⟩
  | .hbm, ⟨7, _⟩ => ⟨S_, .f32⟩
  | .hbm, ⟨8, _⟩ => ⟨S2x4224x2048, .f32⟩
  | .hbm, ⟨9, _⟩ => ⟨S8448x2048, .f32⟩
  | .hbm, ⟨10, _⟩ => ⟨S2x4112x2048, .f32⟩
  | .hbm, ⟨11, _⟩ => ⟨S_, .i32⟩
  | .hbm, ⟨12, _⟩ => ⟨S_, .f32⟩
  | .hbm, ⟨13, _⟩ => ⟨S2x4224x2048, .f32⟩
  | .hbm, ⟨14, _⟩ => ⟨S8448x2048, .f32⟩
  | .hbm, ⟨15, _⟩ => ⟨S2x4112x2048, .f32⟩
  | .hbm, ⟨16, _⟩ => ⟨S_, .i32⟩
  | .hbm, ⟨17, _⟩ => ⟨S_, .f32⟩
  | .hbm, ⟨18, _⟩ => ⟨S2x4224x2048, .f32⟩
  | .hbm, ⟨19, _⟩ => ⟨S8448x2048, .f32⟩
  | .hbm, ⟨20, _⟩ => ⟨S8448x6144, .f32⟩
  | .hbm, ⟨21, _⟩ => ⟨S_, .f32⟩
  | .hbm, ⟨22, _⟩ => ⟨S_, .f32⟩
  | .hbm, ⟨23, _⟩ => ⟨S2x4112x16, .f32⟩
  | .hbm, ⟨24, _⟩ => ⟨S2x4112x16, .f32⟩
  | .hbm, ⟨25, _⟩ => ⟨S_, .f32⟩
  | .hbm, ⟨26, _⟩ => ⟨S_, .f32⟩
  | .hbm, ⟨27, _⟩ => ⟨S2x4224x16, .f32⟩
  | .hbm, ⟨28, _⟩ => ⟨S16x2x4224, .f32⟩
  | .hbm, ⟨29, _⟩ => ⟨S16x8448, .f32⟩
  | .hbm, ⟨30, _⟩ => ⟨S16x128x256, .bf16⟩
  | .hbm, ⟨31, _⟩ => ⟨S16x22x1x384, .f32⟩
  | .hbm, ⟨32, _⟩ => ⟨S8448x4096, .f32⟩
  | .local _ .vmem, ⟨0, _⟩ => ⟨S384x512, .f32⟩
  | .local _ .vmem, ⟨1, _⟩ => ⟨S384x512, .f32⟩
  | .local _ .vmem, ⟨2, _⟩ => ⟨S4224x512, .f32⟩
  | .local _ .vmem, ⟨3, _⟩ => ⟨S4224x512, .f32⟩
  | .local _ .vmem, ⟨4, _⟩ => ⟨S4224x512, .f32⟩
  | .local _ .vmem, ⟨5, _⟩ => ⟨S4224x512, .f32⟩
  | .local _ .vmem, ⟨6, _⟩ => ⟨S4x11x1x384, .f32⟩
  | .local _ .vmem, ⟨7, _⟩ => ⟨S4x11x1x384, .f32⟩
  | .local _ .vmem, ⟨8, _⟩ => ⟨S4x128x256, .bf16⟩
  | .local _ .vmem, ⟨9, _⟩ => ⟨S4x128x256, .bf16⟩
  | .local _ .vmem, ⟨10, _⟩ => ⟨S384x1024, .f32⟩
  | .local _ .vmem, ⟨11, _⟩ => ⟨S384x1024, .f32⟩
  | .local _ .vmem, ⟨12, _⟩ => ⟨S4224x512, .bf16⟩
  | .local _ .vmem, ⟨13, _⟩ => ⟨S4224x512, .bf16⟩
  | _, _ => ⟨S2x4112x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 11], ![false, false, false]⟩

@[reducible] def k0_t1_loop (i : grid0.Coords) : Scf.Loop 32 :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_8 : BitVec 32 := 1#32
  ⟨c0_i32_7, v26, c1_i32_8⟩
def k0_mult1 (i : grid0.Coords) (k0_t1 : Fin (k0_t1_loop i).trips) : BitVec 32 :=
  let c0_i32_7 : BitVec 32 := 0#32
  let c1_i32_8 : BitVec 32 := 1#32
  let arg11 : BitVec 32 := Scf.iv c0_i32_7 c1_i32_8 k0_t1
  let c384_i32_78 : BitVec 32 := 384#32
  let v211 : BitVec 32 := Scalar.muli arg11 c384_i32_78
  v211
def k0_off1 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c384_i32_78 : BitVec 32 := 384#32
  let v211 : BitVec 32 := Scalar.muli arg11 c384_i32_78
  let v212 : BitVec 32 := v211
  let v213 : Index := Scalar.indexCast v212
  let c0_79 : Index := 0#32
  ![v213.toNat, 0]
def k0_off2 (i : grid0.Coords) (k0_t1 : Fin (k0_t1_loop i).trips) : Fin 4 → Nat :=
  let c0_83 : Index := 0#32
  let c0_i32_7 : BitVec 32 := 0#32
  let c1_i32_8 : BitVec 32 := 1#32
  let arg11 : BitVec 32 := Scf.iv c0_i32_7 c1_i32_8 k0_t1
  let v220 : Index := Scalar.indexCast arg11
  let c0_84 : Index := 0#32
  let c0_85 : Index := 0#32
  ![0, v220.toNat, 0, 0]
def k0_off3 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c384_i32_78 : BitVec 32 := 384#32
  let v211 : BitVec 32 := Scalar.muli arg11 c384_i32_78
  let v212 : BitVec 32 := v211
  let v242 : Index := Scalar.indexCast v212
  let c128_89 : Index := 128#32
  ![v242.toNat, 128]
def k0_off4 (i : grid0.Coords) (k0_t1 : Fin (k0_t1_loop i).trips) : Fin 4 → Nat :=
  let c1_93 : Index := 1#32
  let c0_i32_7 : BitVec 32 := 0#32
  let c1_i32_8 : BitVec 32 := 1#32
  let arg11 : BitVec 32 := Scf.iv c0_i32_7 c1_i32_8 k0_t1
  let v249 : Index := Scalar.indexCast arg11
  let c0_94 : Index := 0#32
  let c0_95 : Index := 0#32
  ![1, v249.toNat, 0, 0]
def k0_off5 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c384_i32_78 : BitVec 32 := 384#32
  let v211 : BitVec 32 := Scalar.muli arg11 c384_i32_78
  let v212 : BitVec 32 := v211
  let v271 : Index := Scalar.indexCast v212
  let c256_99 : Index := 256#32
  ![v271.toNat, 256]
def k0_off6 (i : grid0.Coords) (k0_t1 : Fin (k0_t1_loop i).trips) : Fin 4 → Nat :=
  let c2_103 : Index := 2#32
  let c0_i32_7 : BitVec 32 := 0#32
  let c1_i32_8 : BitVec 32 := 1#32
  let arg11 : BitVec 32 := Scf.iv c0_i32_7 c1_i32_8 k0_t1
  let v278 : Index := Scalar.indexCast arg11
  let c0_104 : Index := 0#32
  let c0_105 : Index := 0#32
  ![2, v278.toNat, 0, 0]
def k0_off7 (i : grid0.Coords) (k0_t1 : Fin (k0_t1_loop i).trips) : Fin 2 → Nat :=
  let c0_i32_7 : BitVec 32 := 0#32
  let c1_i32_8 : BitVec 32 := 1#32
  let arg11 : BitVec 32 := Scf.iv c0_i32_7 c1_i32_8 k0_t1
  let c384_i32_78 : BitVec 32 := 384#32
  let v211 : BitVec 32 := Scalar.muli arg11 c384_i32_78
  let v212 : BitVec 32 := v211
  let v300 : Index := Scalar.indexCast v212
  let c384_109 : Index := 384#32
  ![v300.toNat, 384]
def k0_off8 (i : grid0.Coords) (k0_t1 : Fin (k0_t1_loop i).trips) : Fin 4 → Nat :=
  let c3_113 : Index := 3#32
  let c0_i32_7 : BitVec 32 := 0#32
  let c1_i32_8 : BitVec 32 := 1#32
  let arg11 : BitVec 32 := Scf.iv c0_i32_7 c1_i32_8 k0_t1
  let v307 : Index := Scalar.indexCast arg11
  let c0_114 : Index := 0#32
  let c0_115 : Index := 0#32
  ![3, v307.toNat, 0, 0]
@[reducible] def k0_t2_loop (i : grid0.Coords) : Scf.Loop 32 :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let v23 : BitVec 32 := Scalar.addi c0_i32_7 v22
  let c1_i32_9 : BitVec 32 := 1#32
  ⟨v26, v23, c1_i32_9⟩
def k0_mult2 (i : grid0.Coords) (k0_t2 : Fin (k0_t2_loop i).trips) : BitVec 32 :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let c384_i32_78 : BitVec 32 := 384#32
  let v211 : BitVec 32 := Scalar.muli arg11 c384_i32_78
  v211
def k0_off9 (i : grid0.Coords) (k0_t2 : Fin (k0_t2_loop i).trips) : Fin 2 → Nat :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let c384_i32_78 : BitVec 32 := 384#32
  let v211 : BitVec 32 := Scalar.muli arg11 c384_i32_78
  let v212 : BitVec 32 := v211
  let v213 : Index := Scalar.indexCast v212
  let c0_79 : Index := 0#32
  ![v213.toNat, 0]
def k0_off10 (i : grid0.Coords) (k0_t2 : Fin (k0_t2_loop i).trips) : Fin 4 → Nat :=
  let c0_83 : Index := 0#32
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let v220 : Index := Scalar.indexCast arg11
  let c0_84 : Index := 0#32
  let c0_85 : Index := 0#32
  ![0, v220.toNat, 0, 0]
def k0_off11 (i : grid0.Coords) (k0_t2 : Fin (k0_t2_loop i).trips) : Fin 2 → Nat :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let c384_i32_78 : BitVec 32 := 384#32
  let v211 : BitVec 32 := Scalar.muli arg11 c384_i32_78
  let v212 : BitVec 32 := v211
  let v242 : Index := Scalar.indexCast v212
  let c128_89 : Index := 128#32
  ![v242.toNat, 128]
def k0_off12 (i : grid0.Coords) (k0_t2 : Fin (k0_t2_loop i).trips) : Fin 4 → Nat :=
  let c1_93 : Index := 1#32
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let v249 : Index := Scalar.indexCast arg11
  let c0_94 : Index := 0#32
  let c0_95 : Index := 0#32
  ![1, v249.toNat, 0, 0]
def k0_off13 (i : grid0.Coords) (k0_t2 : Fin (k0_t2_loop i).trips) : Fin 2 → Nat :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let c384_i32_78 : BitVec 32 := 384#32
  let v211 : BitVec 32 := Scalar.muli arg11 c384_i32_78
  let v212 : BitVec 32 := v211
  let v271 : Index := Scalar.indexCast v212
  let c256_99 : Index := 256#32
  ![v271.toNat, 256]
def k0_off14 (i : grid0.Coords) (k0_t2 : Fin (k0_t2_loop i).trips) : Fin 4 → Nat :=
  let c2_103 : Index := 2#32
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let v278 : Index := Scalar.indexCast arg11
  let c0_104 : Index := 0#32
  let c0_105 : Index := 0#32
  ![2, v278.toNat, 0, 0]
def k0_off15 (i : grid0.Coords) (k0_t2 : Fin (k0_t2_loop i).trips) : Fin 2 → Nat :=
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let c384_i32_78 : BitVec 32 := 384#32
  let v211 : BitVec 32 := Scalar.muli arg11 c384_i32_78
  let v212 : BitVec 32 := v211
  let v300 : Index := Scalar.indexCast v212
  let c384_109 : Index := 384#32
  ![v300.toNat, 384]
def k0_off16 (i : grid0.Coords) (k0_t2 : Fin (k0_t2_loop i).trips) : Fin 4 → Nat :=
  let c3_113 : Index := 3#32
  let c0_i32_7 : BitVec 32 := 0#32
  let arg2 : BitVec 32 := BitVec.ofNat 32 (i 2).val
  let v22 : BitVec 32 := Scalar.subi arg2 c0_i32_7
  let c1_i32 : BitVec 32 := 1#32
  let v24 : BitVec 32 := Scalar.divsi v22 c1_i32
  let v25 : BitVec 32 := Scalar.muli v24 c1_i32
  let v26 : BitVec 32 := Scalar.addi c0_i32_7 v25
  let c1_i32_9 : BitVec 32 := 1#32
  let arg11 : BitVec 32 := Scf.iv v26 c1_i32_9 k0_t2
  let v307 : Index := Scalar.indexCast arg11
  let c0_114 : Index := 0#32
  let c0_115 : Index := 0#32
  ![3, v307.toNat, 0, 0]
def k0_mult3 (i : grid0.Coords) : BitVec 32 :=
  let arg2 : BitVec 32 := BitVec.ofNat 32 (i 2).val
  let c384_i32_10 : BitVec 32 := 384#32
  let v29 : BitVec 32 := Scalar.muli arg2 c384_i32_10
  v29
def k0_off17 (i : grid0.Coords) : Fin 2 → Nat :=
  let arg2 : BitVec 32 := BitVec.ofNat 32 (i 2).val
  let c384_i32_10 : BitVec 32 := 384#32
  let v29 : BitVec 32 := Scalar.muli arg2 c384_i32_10
  let v30 : BitVec 32 := v29
  let v31 : Index := Scalar.indexCast v30
  let c0_11 : Index := 0#32
  ![v31.toNat, 0]
def k0_off18 (i : grid0.Coords) : Fin 4 → Nat :=
  let c0_15 : Index := 0#32
  let arg2 : BitVec 32 := BitVec.ofNat 32 (i 2).val
  let v38 : Index := Scalar.indexCast arg2
  let c0_16 : Index := 0#32
  let c0_17 : Index := 0#32
  ![0, v38.toNat, 0, 0]
def k0_off19 (i : grid0.Coords) : Fin 2 → Nat :=
  let arg2 : BitVec 32 := BitVec.ofNat 32 (i 2).val
  let c384_i32_10 : BitVec 32 := 384#32
  let v29 : BitVec 32 := Scalar.muli arg2 c384_i32_10
  let v30 : BitVec 32 := v29
  let v69 : Index := Scalar.indexCast v30
  let c128_23 : Index := 128#32
  ![v69.toNat, 128]
def k0_off20 (i : grid0.Coords) : Fin 4 → Nat :=
  let c1 : Index := 1#32
  let arg2 : BitVec 32 := BitVec.ofNat 32 (i 2).val
  let v76 : Index := Scalar.indexCast arg2
  let c0_27 : Index := 0#32
  let c0_28 : Index := 0#32
  ![1, v76.toNat, 0, 0]
def k0_off21 (i : grid0.Coords) : Fin 2 → Nat :=
  let arg2 : BitVec 32 := BitVec.ofNat 32 (i 2).val
  let c384_i32_10 : BitVec 32 := 384#32
  let v29 : BitVec 32 := Scalar.muli arg2 c384_i32_10
  let v30 : BitVec 32 := v29
  let v107 : Index := Scalar.indexCast v30
  let c256_34 : Index := 256#32
  ![v107.toNat, 256]
def k0_off22 (i : grid0.Coords) : Fin 4 → Nat :=
  let c2 : Index := 2#32
  let arg2 : BitVec 32 := BitVec.ofNat 32 (i 2).val
  let v114 : Index := Scalar.indexCast arg2
  let c0_38 : Index := 0#32
  let c0_39 : Index := 0#32
  ![2, v114.toNat, 0, 0]
def k0_off23 (i : grid0.Coords) : Fin 2 → Nat :=
  let arg2 : BitVec 32 := BitVec.ofNat 32 (i 2).val
  let c384_i32_10 : BitVec 32 := 384#32
  let v29 : BitVec 32 := Scalar.muli arg2 c384_i32_10
  let v30 : BitVec 32 := v29
  let v145 : Index := Scalar.indexCast v30
  let c384_45 : Index := 384#32
  ![v145.toNat, 384]
def k0_off24 (i : grid0.Coords) : Fin 4 → Nat :=
  let c3 : Index := 3#32
  let arg2 : BitVec 32 := BitVec.ofNat 32 (i 2).val
  let v152 : Index := Scalar.indexCast arg2
  let c0_49 : Index := 0#32
  let c0_50 : Index := 0#32
  ![3, v152.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x11x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some (((Real.sqrt 128)⁻¹ * (Real.log 2)⁻¹ : ℝ) : EReal)
  | _ => none
-- ==== ReferenceIdeal.lean ====
abbrev S2x4112x16x128 : Shape := ⟨4, ![2, 4112, 16, 128]⟩
abbrev S2x4112x16 : Shape := ⟨3, ![2, 4112, 16]⟩
abbrev S16x128x256 : Shape := ⟨3, ![16, 128, 256]⟩
abbrev S4112 : Shape := ⟨1, ![4112]⟩
abbrev S2x16x4112x4112 : Shape := ⟨4, ![2, 16, 4112, 4112]⟩
abbrev S_ : Shape := ⟨0, ![]⟩
abbrev S2x16x4112 : Shape := ⟨3, ![2, 16, 4112]⟩
abbrev S2x16x4112x1 : Shape := ⟨4, ![2, 16, 4112, 1]⟩
abbrev S2x16x1x4112 : Shape := ⟨4, ![2, 16, 1, 4112]⟩
abbrev S1x4112 : Shape := ⟨2, ![1, 4112]⟩
abbrev S4112x1 : Shape := ⟨2, ![4112, 1]⟩
abbrev S4112x4112 : Shape := ⟨2, ![4112, 4112]⟩
abbrev S2x16x128x4112 : Shape := ⟨4, ![2, 16, 128, 4112]⟩
abbrev S16x256x2x4112 : Shape := ⟨4, ![16, 256, 2, 4112]⟩
abbrev S2x4112x16x256 : Shape := ⟨4, ![2, 4112, 16, 256]⟩
abbrev S2x4112x4096 : Shape := ⟨3, ![2, 4112, 4096]⟩
abbrev S2x4224x4096 : Shape := ⟨3, ![2, 4224, 4096]⟩
abbrev S8448x4096 : Shape := ⟨2, ![8448, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2x4112x16x128, .f32⟩
  | .hbm, ⟨1, _⟩ => ⟨S2x4112x16x128, .f32⟩
  | .hbm, ⟨2, _⟩ => ⟨S2x4112x16x128, .f32⟩
  | .hbm, ⟨3, _⟩ => ⟨S2x4112x16, .f32⟩
  | .hbm, ⟨4, _⟩ => ⟨S16x128x256, .f32⟩
  | .hbm, ⟨5, _⟩ => ⟨S4112, .i32⟩
  | .hbm, ⟨6, _⟩ => ⟨S2x16x4112x4112, .f32⟩
  | .hbm, ⟨7, _⟩ => ⟨S_, .f32⟩
  | .hbm, ⟨8, _⟩ => ⟨S_, .f32⟩
  | .hbm, ⟨9, _⟩ => ⟨S2x16x4112x4112, .f32⟩
  | .hbm, ⟨10, _⟩ => ⟨S2x16x4112x4112, .f32⟩
  | .hbm, ⟨11, _⟩ => ⟨S2x16x4112, .f32⟩
  | .hbm, ⟨12, _⟩ => ⟨S2x16x4112x1, .f32⟩
  | .hbm, ⟨13, _⟩ => ⟨S2x16x4112x4112, .f32⟩
  | .hbm, ⟨14, _⟩ => ⟨S2x16x4112x4112, .f32⟩
  | .hbm, ⟨15, _⟩ => ⟨S2x16x4112, .f32⟩
  | .hbm, ⟨16, _⟩ => ⟨S2x16x1x4112, .f32⟩
  | .hbm, ⟨17, _⟩ => ⟨S2x16x4112x4112, .f32⟩
  | .hbm, ⟨18, _⟩ => ⟨S2x16x4112x4112, .f32⟩
  | .hbm, ⟨19, _⟩ => ⟨S1x4112, .i32⟩
  | .hbm, ⟨20, _⟩ => ⟨S4112x1, .i32⟩
  | .hbm, ⟨21, _⟩ => ⟨S4112x4112, .i32⟩
  | .hbm, ⟨22, _⟩ => ⟨S4112x4112, .i32⟩
  | .hbm, ⟨23, _⟩ => ⟨S4112x4112, .i1⟩
  | .hbm, ⟨24, _⟩ => ⟨S_, .f32⟩
  | .hbm, ⟨25, _⟩ => ⟨S_, .f32⟩
  | .hbm, ⟨26, _⟩ => ⟨S2x16x4112x4112, .i1⟩
  | .hbm, ⟨27, _⟩ => ⟨S2x16x4112x4112, .f32⟩
  | .hbm, ⟨28, _⟩ => ⟨S2x16x4112x4112, .f32⟩
  | .hbm, ⟨29, _⟩ => ⟨S_, .f32⟩
  | .hbm, ⟨30, _⟩ => ⟨S2x16x4112, .f32⟩
  | .hbm, ⟨31, _⟩ => ⟨S_, .f32⟩
  | .hbm, ⟨32, _⟩ => ⟨S2x16x4112, .f32⟩
  | .hbm, ⟨33, _⟩ => ⟨S2x16x4112, .f32⟩
  | .hbm, ⟨34, _⟩ => ⟨S2x16x4112x1, .f32⟩
  | .hbm, ⟨35, _⟩ => ⟨S2x16x4112x4112, .f32⟩
  | .hbm, ⟨36, _⟩ => ⟨S2x16x4112x4112, .f32⟩
  | .hbm, ⟨37, _⟩ => ⟨S2x16x4112x4112, .f32⟩
  | .hbm, ⟨38, _⟩ => ⟨S_, .f32⟩
  | .hbm, ⟨39, _⟩ => ⟨S2x16x4112, .f32⟩
  | .hbm, ⟨40, _⟩ => ⟨S2x16x4112x1, .f32⟩
  | .hbm, ⟨41, _⟩ => ⟨S2x16x4112x4112, .f32⟩
  | .hbm, ⟨42, _⟩ => ⟨S2x16x4112x4112, .f32⟩
  | .hbm, ⟨43, _⟩ => ⟨S2x16x128x4112, .f32⟩
  | .hbm, ⟨44, _⟩ => ⟨S2x4112x16x128, .f32⟩
  | .hbm, ⟨45, _⟩ => ⟨S16x256x2x4112, .f32⟩
  | .hbm, ⟨46, _⟩ => ⟨S2x4112x16x256, .f32⟩
  | .hbm, ⟨47, _⟩ => ⟨S2x4112x4096, .f32⟩
  | .hbm, ⟨48, _⟩ => ⟨S_, .i32⟩
  | .hbm, ⟨49, _⟩ => ⟨S_, .f32⟩
  | .hbm, ⟨50, _⟩ => ⟨S2x4224x4096, .f32⟩
  | .hbm, ⟨51, _⟩ => ⟨S8448x4096, .f32⟩
  | _, _ => ⟨S2x4112x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel2.lean ====
abbrev S2x4112x4096 : Shape := ⟨3, ![2, 4112, 4096]⟩
abbrev S4096x11008 : Shape := ⟨2, ![4096, 11008]⟩
abbrev S3x11008 : Shape := ⟨2, ![3, 11008]⟩
abbrev S11008 : Shape := ⟨1, ![11008]⟩
abbrev S_ : Shape := ⟨0, ![]⟩
abbrev S2x4224x4096 : Shape := ⟨3, ![2, 4224, 4096]⟩
abbrev S8448x4096 : Shape := ⟨2, ![8448, 4096]⟩
abbrev S1x11008 : Shape := ⟨2, ![1, 11008]⟩
abbrev S8448x11008 : Shape := ⟨2, ![8448, 11008]⟩
abbrev S6x8x11008 : Shape := ⟨3, ![6, 8, 11008]⟩
abbrev S1408x4096 : Shape := ⟨2, ![1408, 4096]⟩
abbrev S4096x256 : Shape := ⟨2, ![4096, 256]⟩
abbrev S3x256 : Shape := ⟨2, ![3, 256]⟩
abbrev S1x256 : Shape := ⟨2, ![1, 256]⟩
abbrev S1408x256 : Shape := ⟨2, ![1408, 256]⟩
abbrev S1x8x256 : Shape := ⟨3, ![1, 8, 256]⟩
abbrev S43x8x256 : Shape := ⟨3, ![43, 8, 256]⟩
abbrev S8x256 : Shape := ⟨2, ![8, 256]⟩
abbrev S1408x1 : Shape := ⟨2, ![1408, 1]⟩

abbrev nBuf : Space → Nat
  | .hbm => 15
  | .vmem => 15
  | .smem => 0
  | _ => 0

abbrev bufTy : (tb : Table) → Fin (tcTables nBuf tb) → BufTy
  | .hbm, ⟨0, _⟩ => ⟨S2x4112x4096, .f32⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S11008, .f32⟩
  | .hbm, ⟨5, _⟩ => ⟨S_, .i32⟩
  | .hbm, ⟨6, _⟩ => ⟨S_, .f32⟩
  | .hbm, ⟨7, _⟩ => ⟨S2x4224x4096, .f32⟩
  | .hbm, ⟨8, _⟩ => ⟨S8448x4096, .f32⟩
  | .hbm, ⟨9, _⟩ => ⟨S8448x4096, .bf16⟩
  | .hbm, ⟨10, _⟩ => ⟨S4096x11008, .bf16⟩
  | .hbm, ⟨11, _⟩ => ⟨S4096x11008, .bf16⟩
  | .hbm, ⟨12, _⟩ => ⟨S1x11008, .f32⟩
  | .hbm, ⟨13, _⟩ => ⟨S8448x11008, .bf16⟩
  | .hbm, ⟨14, _⟩ => ⟨S6x8x11008, .f32⟩
  | .local _ .vmem, ⟨0, _⟩ => ⟨S1408x4096, .bf16⟩
  | .local _ .vmem, ⟨1, _⟩ => ⟨S1408x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1408x256, .bf16⟩
  | .local _ .vmem, ⟨11, _⟩ => ⟨S1408x256, .bf16⟩
  | .local _ .vmem, ⟨12, _⟩ => ⟨S1x8x256, .f32⟩
  | .local _ .vmem, ⟨13, _⟩ => ⟨S1x8x256, .f32⟩
  | .local _ .vmem, ⟨14, _⟩ => ⟨S43x8x256, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 43], ![false, false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_6 : BitVec 32 := 0#32
  let v10 : BitVec 1 := Scalar.cmpi .ne v9 c0_i32_6
  v10

def k0_off1 (i : grid0.Coords) : Fin 3 → Nat :=
  let arg1 : BitVec 32 := BitVec.ofNat 32 (i 1).val
  let v82 : Index := Scalar.indexCast arg1
  let c0_28 : Index := 0#32
  let c0_29 : Index := 0#32
  ![v82.toNat, 0, 0]
def k0_off2 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x4112x4096 : Shape := ⟨3, ![2, 4112, 4096]⟩
abbrev S4096x11008 : Shape := ⟨2, ![4096, 11008]⟩
abbrev S3x11008 : Shape := ⟨2, ![3, 11008]⟩
abbrev S11008 : Shape := ⟨1, ![11008]⟩
abbrev S2x4112x11008 : Shape := ⟨3, ![2, 4112, 11008]⟩
abbrev S_ : Shape := ⟨0, ![]⟩
abbrev S2x2x11008 : Shape := ⟨3, ![2, 2, 11008]⟩
abbrev S2x4114x11008 : Shape := ⟨3, ![2, 4114, 11008]⟩
abbrev S1x11008 : Shape := ⟨2, ![1, 11008]⟩
abbrev S1x1x11008 : Shape := ⟨3, ![1, 1, 11008]⟩
abbrev S2x4224x11008 : Shape := ⟨3, ![2, 4224, 11008]⟩
abbrev S8448x11008 : Shape := ⟨2, ![8448, 11008]⟩
abbrev S2x1x2x11008 : Shape := ⟨4, ![2, 1, 2, 11008]⟩
abbrev S2x3x8x11008 : Shape := ⟨4, ![2, 3, 8, 11008]⟩
abbrev S6x8x11008 : Shape := ⟨3, ![6, 8, 11008]⟩

abbrev nBuf : Space → Nat
  | .hbm => 62
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S4096x11008, .f32⟩
  | .hbm, ⟨2, _⟩ => ⟨S4096x11008, .f32⟩
  | .hbm, ⟨3, _⟩ => ⟨S3x11008, .f32⟩
  | .hbm, ⟨4, _⟩ => ⟨S11008, .f32⟩
  | .hbm, ⟨5, _⟩ => ⟨S2x4112x11008, .f32⟩
  | .hbm, ⟨6, _⟩ => ⟨S2x4112x11008, .f32⟩
  | .hbm, ⟨7, _⟩ => ⟨S_, .f32⟩
  | .hbm, ⟨8, _⟩ => ⟨S2x2x11008, .f32⟩
  | .hbm, ⟨9, _⟩ => ⟨S2x4114x11008, .f32⟩
  | .hbm, ⟨10, _⟩ => ⟨S1x11008, .f32⟩
  | .hbm, ⟨11, _⟩ => ⟨S11008, .f32⟩
  | .hbm, ⟨12, _⟩ => ⟨S2x4112x11008, .f32⟩
  | .hbm, ⟨13, _⟩ => ⟨S1x1x11008, .f32⟩
  | .hbm, ⟨14, _⟩ => ⟨S2x4112x11008, .f32⟩
  | .hbm, ⟨15, _⟩ => ⟨S2x4112x11008, .f32⟩
  | .hbm, ⟨16, _⟩ => ⟨S1x1x11008, .f32⟩
  | .hbm, ⟨17, _⟩ => ⟨S2x4112x11008, .f32⟩
  | .hbm, ⟨18, _⟩ => ⟨S2x4112x11008, .f32⟩
  | .hbm, ⟨19, _⟩ => ⟨S1x11008, .f32⟩
  | .hbm, ⟨20, _⟩ => ⟨S11008, .f32⟩
  | .hbm, ⟨21, _⟩ => ⟨S2x4112x11008, .f32⟩
  | .hbm, ⟨22, _⟩ => ⟨S1x1x11008, .f32⟩
  | .hbm, ⟨23, _⟩ => ⟨S2x4112x11008, .f32⟩
  | .hbm, ⟨24, _⟩ => ⟨S2x4112x11008, .f32⟩
  | .hbm, ⟨25, _⟩ => ⟨S2x4112x11008, .f32⟩
  | .hbm, ⟨26, _⟩ => ⟨S1x11008, .f32⟩
  | .hbm, ⟨27, _⟩ => ⟨S11008, .f32⟩
  | .hbm, ⟨28, _⟩ => ⟨S2x4112x11008, .f32⟩
  | .hbm, ⟨29, _⟩ => ⟨S1x1x11008, .f32⟩
  | .hbm, ⟨30, _⟩ => ⟨S2x4112x11008, .f32⟩
  | .hbm, ⟨31, _⟩ => ⟨S2x4112x11008, .f32⟩
  | .hbm, ⟨32, _⟩ => ⟨S2x4112x11008, .f32⟩
  | .hbm, ⟨33, _⟩ => ⟨S2x4112x11008, .f32⟩
  | .hbm, ⟨34, _⟩ => ⟨S2x4112x11008, .f32⟩
  | .hbm, ⟨35, _⟩ => ⟨S_, .f32⟩
  | .hbm, ⟨36, _⟩ => ⟨S2x4112x11008, .f32⟩
  | .hbm, ⟨37, _⟩ => ⟨S2x4112x11008, .f32⟩
  | .hbm, ⟨38, _⟩ => ⟨S2x4112x11008, .f32⟩
  | .hbm, ⟨39, _⟩ => ⟨S_, .f32⟩
  | .hbm, ⟨40, _⟩ => ⟨S2x4112x11008, .f32⟩
  | .hbm, ⟨41, _⟩ => ⟨S2x4112x11008, .f32⟩
  | .hbm, ⟨42, _⟩ => ⟨S2x4112x11008, .f32⟩
  | .hbm, ⟨43, _⟩ => ⟨S_, .f32⟩
  | .hbm, ⟨44, _⟩ => ⟨S2x4112x11008, .f32⟩
  | .hbm, ⟨45, _⟩ => ⟨S2x4112x11008, .f32⟩
  | .hbm, ⟨46, _⟩ => ⟨S_, .f32⟩
  | .hbm, ⟨47, _⟩ => ⟨S2x4112x11008, .f32⟩
  | .hbm, ⟨48, _⟩ => ⟨S2x4112x11008, .f32⟩
  | .hbm, ⟨49, _⟩ => ⟨S2x4112x11008, .f32⟩
  | .hbm, ⟨50, _⟩ => ⟨S2x4112x11008, .f32⟩
  | .hbm, ⟨51, _⟩ => ⟨S_, .i32⟩
  | .hbm, ⟨52, _⟩ => ⟨S_, .f32⟩
  | .hbm, ⟨53, _⟩ => ⟨S2x4224x11008, .f32⟩
  | .hbm, ⟨54, _⟩ => ⟨S8448x11008, .f32⟩
  | .hbm, ⟨55, _⟩ => ⟨S8448x11008, .bf16⟩
  | .hbm, ⟨56, _⟩ => ⟨S2x2x11008, .f32⟩
  | .hbm, ⟨57, _⟩ => ⟨S2x1x2x11008, .f32⟩
  | .hbm, ⟨58, _⟩ => ⟨S_, .i32⟩
  | .hbm, ⟨59, _⟩ => ⟨S_, .f32⟩
  | .hbm, ⟨60, _⟩ => ⟨S2x3x8x11008, .f32⟩
  | .hbm, ⟨61, _⟩ => ⟨S6x8x11008, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_call0_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_call1_v0 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel3.lean ====
abbrev S2x4112x4096 : Shape := ⟨3, ![2, 4112, 4096]⟩
abbrev S4096x16400 : Shape := ⟨2, ![4096, 16400]⟩
abbrev S_ : Shape := ⟨0, ![]⟩
abbrev S2x4224x4096 : Shape := ⟨3, ![2, 4224, 4096]⟩
abbrev S8448x4096 : Shape := ⟨2, ![8448, 4096]⟩
abbrev S8448x6144 : Shape := ⟨2, ![8448, 6144]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4112x4096, .f32⟩
  | .hbm, ⟨1, _⟩ => ⟨S4096x16400, .f32⟩
  | .hbm, ⟨2, _⟩ => ⟨S_, .i32⟩
  | .hbm, ⟨3, _⟩ => ⟨S_, .f32⟩
  | .hbm, ⟨4, _⟩ => ⟨S2x4224x4096, .f32⟩
  | .hbm, ⟨5, _⟩ => ⟨S8448x4096, .f32⟩
  | .hbm, ⟨6, _⟩ => ⟨S8448x4096, .bf16⟩
  | .hbm, ⟨7, _⟩ => ⟨S4096x16400, .bf16⟩
  | .hbm, ⟨8, _⟩ => ⟨S8448x6144, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4112x4096 : Shape := ⟨3, ![2, 4112, 4096]⟩
abbrev S4096x16400 : Shape := ⟨2, ![4096, 16400]⟩
abbrev S2x4112x16400 : Shape := ⟨3, ![2, 4112, 16400]⟩
abbrev S2x4112x6144 : Shape := ⟨3, ![2, 4112, 6144]⟩
abbrev S_ : Shape := ⟨0, ![]⟩
abbrev S2x4224x6144 : Shape := ⟨3, ![2, 4224, 6144]⟩
abbrev S8448x6144 : Shape := ⟨2, ![8448, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S4096x16400, .f32⟩
  | .hbm, ⟨2, _⟩ => ⟨S2x4112x16400, .f32⟩
  | .hbm, ⟨3, _⟩ => ⟨S2x4112x6144, .f32⟩
  | .hbm, ⟨4, _⟩ => ⟨S_, .i32⟩
  | .hbm, ⟨5, _⟩ => ⟨S_, .f32⟩
  | .hbm, ⟨6, _⟩ => ⟨S2x4224x6144, .f32⟩
  | .hbm, ⟨7, _⟩ => ⟨S8448x6144, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S2x4112x4096 : Shape := ⟨3, ![2, 4112, 4096]⟩
abbrev S4096x16400 : Shape := ⟨2, ![4096, 16400]⟩
abbrev S_ : Shape := ⟨0, ![]⟩
abbrev S2x4224x4096 : Shape := ⟨3, ![2, 4224, 4096]⟩
abbrev S8448x4096 : Shape := ⟨2, ![8448, 4096]⟩
abbrev S4096x10240 : Shape := ⟨2, ![4096, 10240]⟩
abbrev S8448x10240 : Shape := ⟨2, ![8448, 10240]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 10
  | .vmem => 6
  | .smem => 0
  | _ => 0

abbrev bufTy : (tb : Table) → Fin (tcTables nBuf tb) → BufTy
  | .hbm, ⟨0, _⟩ => ⟨S2x4112x4096, .f32⟩
  | .hbm, ⟨1, _⟩ => ⟨S4096x16400, .f32⟩
  | .hbm, ⟨2, _⟩ => ⟨S_, .i32⟩
  | .hbm, ⟨3, _⟩ => ⟨S_, .f32⟩
  | .hbm, ⟨4, _⟩ => ⟨S2x4224x4096, .f32⟩
  | .hbm, ⟨5, _⟩ => ⟨S8448x4096, .f32⟩
  | .hbm, ⟨6, _⟩ => ⟨S8448x4096, .bf16⟩
  | .hbm, ⟨7, _⟩ => ⟨S4096x16400, .bf16⟩
  | .hbm, ⟨8, _⟩ => ⟨S4096x10240, .bf16⟩
  | .hbm, ⟨9, _⟩ => ⟨S8448x10240, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x4112x4096 : Shape := ⟨3, ![2, 4112, 4096]⟩
abbrev S4096x16400 : Shape := ⟨2, ![4096, 16400]⟩
abbrev S2x4112x16400 : Shape := ⟨3, ![2, 4112, 16400]⟩
abbrev S2x4112x10240 : Shape := ⟨3, ![2, 4112, 10240]⟩
abbrev S_ : Shape := ⟨0, ![]⟩
abbrev S2x4224x10240 : Shape := ⟨3, ![2, 4224, 10240]⟩
abbrev S8448x10240 : Shape := ⟨2, ![8448, 10240]⟩

abbrev nBuf : Space → Nat
  | .hbm => 8
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S4096x16400, .f32⟩
  | .hbm, ⟨2, _⟩ => ⟨S2x4112x16400, .f32⟩
  | .hbm, ⟨3, _⟩ => ⟨S2x4112x10240, .f32⟩
  | .hbm, ⟨4, _⟩ => ⟨S_, .i32⟩
  | .hbm, ⟨5, _⟩ => ⟨S_, .f32⟩
  | .hbm, ⟨6, _⟩ => ⟨S2x4224x10240, .f32⟩
  | .hbm, ⟨7, _⟩ => ⟨S8448x10240, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S2x4112x11008 : Shape := ⟨3, ![2, 4112, 11008]⟩
abbrev S11008x4096 : Shape := ⟨2, ![11008, 4096]⟩
abbrev S_ : Shape := ⟨0, ![]⟩
abbrev S2x4224x11008 : Shape := ⟨3, ![2, 4224, 11008]⟩
abbrev S8448x11008 : Shape := ⟨2, ![8448, 11008]⟩
abbrev S8448x4096 : Shape := ⟨2, ![8448, 4096]⟩
abbrev S704x11008 : Shape := ⟨2, ![704, 11008]⟩
abbrev S11008x512 : Shape := ⟨2, ![11008, 512]⟩
abbrev S704x512 : Shape := ⟨2, ![704, 512]⟩

abbrev nBuf : Space → Nat
  | .hbm => 9
  | .vmem => 5
  | .smem => 0
  | _ => 0

abbrev bufTy : (tb : Table) → Fin (tcTables nBuf tb) → BufTy
  | .hbm, ⟨0, _⟩ => ⟨S2x4112x11008, .f32⟩
  | .hbm, ⟨1, _⟩ => ⟨S11008x4096, .f32⟩
  | .hbm, ⟨2, _⟩ => ⟨S_, .i32⟩
  | .hbm, ⟨3, _⟩ => ⟨S_, .f32⟩
  | .hbm, ⟨4, _⟩ => ⟨S2x4224x11008, .f32⟩
  | .hbm, ⟨5, _⟩ => ⟨S8448x11008, .f32⟩
  | .hbm, ⟨6, _⟩ => ⟨S8448x11008, .bf16⟩
  | .hbm, ⟨7, _⟩ => ⟨S11008x4096, .bf16⟩
  | .hbm, ⟨8, _⟩ => ⟨S8448x4096, .f32⟩
  | .local _ .vmem, ⟨0, _⟩ => ⟨S704x11008, .bf16⟩
  | .local _ .vmem, ⟨1, _⟩ => ⟨S11008x512, .bf16⟩
  | .local _ .vmem, ⟨2, _⟩ => ⟨S11008x512, .bf16⟩
  | .local _ .vmem, ⟨3, _⟩ => ⟨S704x512, .f32⟩
  | .local _ .vmem, ⟨4, _⟩ => ⟨S704x512, .f32⟩
  | _, _ => ⟨S2x4112x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S704x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4112x11008 : Shape := ⟨3, ![2, 4112, 11008]⟩
abbrev S11008x4096 : Shape := ⟨2, ![11008, 4096]⟩
abbrev S2x4112x4096 : Shape := ⟨3, ![2, 4112, 4096]⟩
abbrev S_ : Shape := ⟨0, ![]⟩
abbrev S2x4224x4096 : Shape := ⟨3, ![2, 4224, 4096]⟩
abbrev S8448x4096 : Shape := ⟨2, ![8448, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x4112x11008, .f32⟩
  | .hbm, ⟨1, _⟩ => ⟨S11008x4096, .f32⟩
  | .hbm, ⟨2, _⟩ => ⟨S2x4112x4096, .f32⟩
  | .hbm, ⟨3, _⟩ => ⟨S_, .i32⟩
  | .hbm, ⟨4, _⟩ => ⟨S_, .f32⟩
  | .hbm, ⟨5, _⟩ => ⟨S2x4224x4096, .f32⟩
  | .hbm, ⟨6, _⟩ => ⟨S8448x4096, .f32⟩
  | _, _ => ⟨S2x4112x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S2x4112x4096 : Shape := ⟨3, ![2, 4112, 4096]⟩
abbrev S4096x4096 : Shape := ⟨2, ![4096, 4096]⟩
abbrev S_ : Shape := ⟨0, ![]⟩
abbrev S2x4224x4096 : Shape := ⟨3, ![2, 4224, 4096]⟩
abbrev S8448x4096 : Shape := ⟨2, ![8448, 4096]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4112x4096, .f32⟩
  | .hbm, ⟨1, _⟩ => ⟨S4096x4096, .f32⟩
  | .hbm, ⟨2, _⟩ => ⟨S_, .i32⟩
  | .hbm, ⟨3, _⟩ => ⟨S_, .f32⟩
  | .hbm, ⟨4, _⟩ => ⟨S2x4224x4096, .f32⟩
  | .hbm, ⟨5, _⟩ => ⟨S8448x4096, .f32⟩
  | .hbm, ⟨6, _⟩ => ⟨S8448x4096, .bf16⟩
  | .hbm, ⟨7, _⟩ => ⟨S4096x4096, .bf16⟩
  | .hbm, ⟨8, _⟩ => ⟨S8448x4096, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S2x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4112x4096 : Shape := ⟨3, ![2, 4112, 4096]⟩
abbrev S4096x4096 : Shape := ⟨2, ![4096, 4096]⟩
abbrev S_ : Shape := ⟨0, ![]⟩
abbrev S2x4224x4096 : Shape := ⟨3, ![2, 4224, 4096]⟩
abbrev S8448x4096 : Shape := ⟨2, ![8448, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x4112x4096, .f32⟩
  | .hbm, ⟨1, _⟩ => ⟨S4096x4096, .f32⟩
  | .hbm, ⟨2, _⟩ => ⟨S2x4112x4096, .f32⟩
  | .hbm, ⟨3, _⟩ => ⟨S_, .i32⟩
  | .hbm, ⟨4, _⟩ => ⟨S_, .f32⟩
  | .hbm, ⟨5, _⟩ => ⟨S2x4224x4096, .f32⟩
  | .hbm, ⟨6, _⟩ => ⟨S8448x4096, .f32⟩
  | _, _ => ⟨S2x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.Pointwise

@[expose] public section

/-! One head's update of its running maximum, running sum and running weighted sum of values by
one block of 384 keys, as a function on vectors, and what it is at a row. -/

open Idealize.ShloMosaic
open Cert.KernelIdeal

namespace Cert.Proof.Step

/-- One head's state: the running maximum, the running sum of weights, the running weighted sum. -/
abbrev St := FVec Ideal S384x1 .f32 × FVec Ideal S384x1 .f32 × FVec Ideal S384x128 .f32

/-- The logits (to base 2) of a block of 384 queries against a block of 384 keys. -/
noncomputable def tile (q k : FVec Ideal S384x128 .bf16) (c : FVec Ideal S1x1x1x384 .f32) :
    FVec Ideal S384x384 .f32 :=
  subf (mulf (matmul dot_S384x128_S384x128_S384x384_1_1_0_0_n_n none q k
      (constant S384x384 .f32 0x00000000#32))
      (broadcast S384x384 (Named.named κ "scale" 0x3E0293EE#32)))
    (broadcastTo S384x384 (shapeCast S1x384 c Gen.shapeCasts_S1x1x1x384_S1x384)
      Gen.broadcasts_S1x384_S384x384)

/-- The maximum after a block. -/
noncomputable def newMax (t : FVec Ideal S384x384 .f32) (m : FVec Ideal S384x1 .f32) :
    FVec Ideal S384x1 .f32 :=
  maximumf m (shapeCast S384x1
    (multiReduction .maximumf [1] S384 t 0xFF800000#32 Gen.reduces_S384x384_S384 (.inl rfl) rfl)
    Gen.shapeCasts_S384_S384x1)

/-- The block's weights under the new maximum. -/
noncomputable def weights (t : FVec Ideal S384x384 .f32) (m : FVec Ideal S384x1 .f32) :
    FVec Ideal S384x384 .f32 :=
  exp2 (subf t (broadcastTo S384x384 (newMax t m) Gen.broadcasts_S384x1_S384x384))

/-- What the old sums are scaled by. -/
noncomputable def rescale (t : FVec Ideal S384x384 .f32) (m : FVec Ideal S384x1 .f32) :
    FVec Ideal S384x1 .f32 :=
  exp2 (subf m (newMax t m))

/-- The state after a block with logits `t` and values `v`. -/
noncomputable def upd (t : FVec Ideal S384x384 .f32) (v : FVec Ideal S384x128 .bf16) (s : St) : St :=
  (newMax t s.1,
   addf (mulf (rescale t s.1) s.2.1)
    (shapeCast S384x1
      (multiReduction .add [1] S384 (weights t s.1) 0x00000000#32 Gen.reduces_S384x384_S384 (.inl rfl) rfl)
      Gen.shapeCasts_S384_S384x1),
   addf (mulf (broadcastTo S384x128 (rescale t s.1) Gen.broadcasts_S384x1_S384x128) s.2.2)
    (matmul dot_S384x384_S384x128_S384x128_1_0_0_1_n_n none
      (truncf .bf16 (weights t s.1) Gen.bitsLt_bf16_f32) v (constant S384x128 .f32 0x00000000#32)))

/-- The diagonal block's logits, minus infinity above the diagonal. -/
noncomputable def masked (i : grid0.Coords) (t : FVec Ideal S384x384 .f32) : FVec Ideal S384x384 .f32 :=
  select (cmpi .sle
      (broadcastTo S384x384
        (addi (broadcast S1x384 (Scalar.muli (BitVec.ofNat 32 (i 2).val) 384#32))
          (iota .tc S1x384 32 [1] Gen.iota_S1x384_d1_w32)) Gen.broadcasts_S1x384_S384x384)
      (broadcastTo S384x384 (Gen.k0_pay50 i) Gen.broadcasts_S384x1_S384x384))
    t (broadcast S384x384 (Scalar.ofBits .f32 0xFF800000#32))

/-- The kernel's named constant is `1 / (√128 · log 2)`. -/
theorem scale : Named.named (F := Ideal) κ "scale" (φ := .f32) 0x3E0293EE#32
    = (((Real.sqrt 128)⁻¹ * (Real.log 2)⁻¹ : ℝ) : EReal) :=
  IdealRules.named_const.ideal_named_scalar _ _ _ _ rfl

/-- The pattern of minus infinity. -/
theorem negInf : Ideal.ofBits .f32 0xFF800000#32 = ⊥ := by
  simp [Ideal.ofBits, Ideal.ieee]

/-- A logit: the product of query and key times the scale, less the key's running gate. -/
theorem tile_apply (q k : FVec Ideal S384x128 .bf16) (c : FVec Ideal S1x1x1x384 .f32) (r n : Fin 384) :
    tile q k c (ix2 r n)
      = (∑ x, q (ix2 r x) * k (ix2 n x)) * (((Real.sqrt 128)⁻¹ * (Real.log 2)⁻¹ : ℝ) : EReal)
        - c (ix4 0 0 0 n) := by
  unfold tile
  pointwise
  rw [scale]

theorem newMax_apply (t : FVec Ideal S384x384 .f32) (m : FVec Ideal S384x1 .f32) (r : Fin 384) :
    newMax t m (ix2 r 0) = max (m (ix2 r 0)) (Finset.univ.fold max ⊥ fun x => t (ix2 r x)) := by
  unfold newMax
  pointwise
  rw [negInf]

theorem weights_apply (t : FVec Ideal S384x384 .f32) (m : FVec Ideal S384x1 .f32) (r n : Fin 384) :
    weights t m (ix2 r n) = Ideal.exp2 (t (ix2 r n) - newMax t m (ix2 r 0)) := by
  unfold weights
  pointwise
  rfl

theorem upd_sum (t : FVec Ideal S384x384 .f32) (v : FVec Ideal S384x128 .bf16) (s : St) (r : Fin 384) :
    (upd t v s).2.1 (ix2 r 0)
      = Ideal.exp2 (s.1 (ix2 r 0) - newMax t s.1 (ix2 r 0)) * s.2.1 (ix2 r 0)
        + ∑ x, weights t s.1 (ix2 r x) := by
  unfold upd rescale
  pointwise
  rfl

theorem upd_acc (t : FVec Ideal S384x384 .f32) (v : FVec Ideal S384x128 .bf16) (s : St) (r : Fin 384)
    (d : Fin 128) :
    (upd t v s).2.2 (ix2 r d)
      = Ideal.exp2 (s.1 (ix2 r 0) - newMax t s.1 (ix2 r 0)) * s.2.2 (ix2 r d)
        + ∑ x, weights t s.1 (ix2 r x) * v (ix2 x d) := by
  unfold upd rescale
  pointwise
  rfl

theorem masked_apply (i : grid0.Coords) (t : FVec Ideal S384x384 .f32) (r n : Fin 384) :
    masked i t (ix2 r n) = if n ≤ r then t (ix2 r n) else ⊥ := by
  unfold masked Gen.k0_pay50
  pointwise
  have hi : (i 2).val < 11 := (i 2).isLt
  rw [negInf]
  have hb : ∀ x : Fin 384, (IntOp.addi (Scalar.muli (BitVec.ofNat 32 (i 2).val) 384#32)
      (BitVec.ofNat 32 x.val)).toInt = (i 2).val * 384 + x.val := by
    intro x
    have hx := x.isLt
    have e : IntOp.addi (Scalar.muli (BitVec.ofNat 32 (i 2).val) 384#32) (BitVec.ofNat 32 x.val)
        = BitVec.ofNat 32 ((i 2).val * 384 + x.val) := by
      simp only [IntOp.addi, Scalar.muli, IntOp.muli]
      rw [BitVec.ofNat_add, BitVec.ofNat_mul]
    rw [e, BitVec.toInt_eq_toNat_of_lt] <;> rw [BitVec.toNat_ofNat, Nat.mod_eq_of_lt (by omega)]
    · push_cast; rfl
    · omega
  unfold IntOp.cmpi
  simp only [BitVec.sle, hb]
  by_cases h : n ≤ r
  · rw [if_pos h]
    have : ((i 2).val * 384 + n.val : ℤ) ≤ (i 2).val * 384 + r.val := by have : n.val ≤ r.val := h; omega
    simp [Scalar.select, this]
  · rw [if_neg h]
    have : ¬ ((i 2).val * 384 + n.val : ℤ) ≤ (i 2).val * 384 + r.val := by
      have : ¬ n.val ≤ r.val := h; omega
    simp [Scalar.select, this]

end Cert.Proof.Step
-- ==== Proof.Body.lean ====
module

public import proofs.«01_k».proof.Proof.Gen.KernelIdeal.Frame
public import proofs.«01_k».proof.Proof.Step
public import Idealize.ShloMosaic.Lib.LoopRemainder

@[expose] public section

/-! What one grid point leaves in the output block: per head, the fold of `Step.upd` over the key
blocks before the diagonal, the diagonal block under its mask, and the quotient's product with the
head's output matrix. -/

open Idealize.ShloMosaic Idealize.ShloMosaic.TcCoe Idealize.ShloMosaic.Tactic Idealize.SL.Sem
open Cert.KernelIdeal Cert.KernelIdeal.Gen

namespace Cert.Proof.Body

/-- Four heads' states, as the loop carries them. -/
abbrev St4 := FVec Ideal S384x1 .f32 × FVec Ideal S384x1 .f32 × FVec Ideal S384x128 .f32 ×
  FVec Ideal S384x1 .f32 × FVec Ideal S384x1 .f32 × FVec Ideal S384x128 .f32 ×
  FVec Ideal S384x1 .f32 × FVec Ideal S384x1 .f32 × FVec Ideal S384x128 .f32 ×
  FVec Ideal S384x1 .f32 × FVec Ideal S384x1 .f32 × FVec Ideal S384x128 .f32

/-- The carried tuple of four heads' states. -/
def pack (s : Fin 4 → Step.St) : St4 :=
  ((s 0).1, (s 0).2.1, (s 0).2.2, (s 1).1, (s 1).2.1, (s 1).2.2,
   (s 2).1, (s 2).2.1, (s 2).2.2, (s 3).1, (s 3).2.1, (s 3).2.2)

/-- Head `h`'s rows of key (or value) block `j`. -/
def kblk (K : FVec Ideal S4224x512 .bf16) (h : Fin 4) (j : ℕ) : FVec Ideal S384x128 .bf16 :=
  fun x => K (ix2 ⟨(384 * j + (x 0).val) % 4224, Nat.mod_lt _ (by norm_num)⟩
    ⟨128 * h.val + (x 1).val, by have := (x 1).isLt; have : (x 1).val < 128 := this; omega⟩)

/-- Head `h`'s gates of key block `j`. -/
def cblk (C : FVec Ideal S4x11x1x384 .f32) (h : Fin 4) (j : ℕ) : FVec Ideal S1x1x1x384 .f32 :=
  fun x => C (ix4 h ⟨j % 11, Nat.mod_lt _ (by norm_num)⟩ 0 (x 3))

/-- Head `h`'s queries. -/
def qblk (Q : FVec Ideal S384x512 .f32) (h : Fin 4) : FVec Ideal S384x128 .bf16 :=
  fun x => Q (ix2 (x 0) ⟨128 * h.val + (x 1).val, by have := (x 1).isLt; have : (x 1).val < 128 := this; omega⟩)

/-- Head `h`'s output matrix. -/
def wblk (W : FVec Ideal S4x128x256 .bf16) (h : Fin 4) : FVec Ideal S1x128x256 .bf16 :=
  fun x => W (ix3 h (x 1) (x 2))

/-- The logits of head `h` against key block `j`. -/
noncomputable def logits (Q : FVec Ideal S384x512 .f32) (K : FVec Ideal S4224x512 .bf16)
    (C : FVec Ideal S4x11x1x384 .f32) (h : Fin 4) (j : ℕ) : FVec Ideal S384x384 .f32 :=
  Step.tile (qblk Q h) (kblk K h j) (cblk C h j)

/-- Head `h`'s state after `n` key blocks. -/
noncomputable def fold (Q : FVec Ideal S384x512 .f32) (K V : FVec Ideal S4224x512 .bf16)
    (C : FVec Ideal S4x11x1x384 .f32) (h : Fin 4) : ℕ → Step.St
  | 0 => (k0_pay51, k0_pay52, k0_pay53)
  | n + 1 => Step.upd (logits Q K C h n) (kblk V h n) (fold Q K V C h n)

/-- Head `h`'s state after the diagonal block. -/
noncomputable def last (i : grid0.Coords) (Q : FVec Ideal S384x512 .f32) (K V : FVec Ideal S4224x512 .bf16)
    (C : FVec Ideal S4x11x1x384 .f32) (h : Fin 4) : Step.St :=
  Step.upd (Step.masked i (logits Q K C h (i 2).val)) (kblk V h (i 2).val) (fold Q K V C h (i 2).val)

/-- Head `h`'s block of the output. -/
noncomputable def headOut (i : grid0.Coords) (Q : FVec Ideal S384x512 .f32) (K V : FVec Ideal S4224x512 .bf16)
    (C : FVec Ideal S4x11x1x384 .f32) (W : FVec Ideal S4x128x256 .bf16) (h : Fin 4) : FVec Ideal S384x256 .f32 :=
  k0_pay93 (last i Q K V C h).2.1 (last i Q K V C h).2.2 (wblk W h)

/-- A block read through a rectangle of a whole buffer. -/
theorem ld_kblk (K : FVec Ideal S4224x512 .bf16) (h : Fin 4) (j : ℕ) (hj : j < 11)
    (off : Fin 2 → ℕ) (ho : off = ![384 * j, 128 * h.val]) (inb) :
    View.ld (Val := Elt Ideal) (e' := .bf16) K (Rect.unit (s := S4224x512) off S384x128.size inb) = kblk K h j := by
  subst ho
  funext x
  idx_vars x
  unfold kblk
  pointwise
  congr 1
  have h0 : (384 * j + x0.val) % 4224 = 384 * j + x0.val := Nat.mod_eq_of_lt (by omega)
  simp only [h0]

theorem ld_cblk (C : FVec Ideal S4x11x1x384 .f32) (h : Fin 4) (j : ℕ) (hj : j < 11)
    (off : Fin 4 → ℕ) (ho : off = ![h.val, j, 0, 0]) (inb) :
    View.ld (Val := Elt Ideal) (e' := .f32) C (Rect.unit (s := S4x11x1x384) off S1x1x1x384.size inb) = cblk C h j := by
  subst ho
  funext x
  idx_vars x
  unfold cblk
  pointwise
  congr 1
  have h0 : j % 11 = j := Nat.mod_eq_of_lt hj
  simp only [h0]

theorem ld_qblk (Q : FVec Ideal S384x512 .f32) (h : Fin 4)
    (off : Fin 2 → ℕ) (ho : off = ![0, 128 * h.val]) (inb) :
    truncf .bf16 (shapeCast S384x128 (View.ld (Val := Elt Ideal) (e' := .f32) Q (Rect.unit (s := S384x512) off S384x128.size inb)) shapeCasts_S384x128_S384x128) bitsLt_bf16_f32 = qblk Q h := by
  subst ho
  funext x
  idx_vars x
  unfold qblk
  pointwise

theorem ld_wblk (W : FVec Ideal S4x128x256 .bf16) (h : Fin 4)
    (off : Fin 3 → ℕ) (ho : off = ![h.val, 0, 0]) (inb) :
    View.ld (Val := Elt Ideal) (e' := .bf16) W (Rect.unit (s := S4x128x256) off S1x128x256.size inb) = wblk W h := by
  subst ho
  funext x
  idx_vars x
  unfold wblk
  pointwise

/-- A head's four-tuple in the loop's carried tuple. -/
def unpack (s : St4) : Fin 4 → Step.St :=
  ![(s.1, s.2.1, s.2.2.1), (s.2.2.2.1, s.2.2.2.2.1, s.2.2.2.2.2.1),
    (s.2.2.2.2.2.2.1, s.2.2.2.2.2.2.2.1, s.2.2.2.2.2.2.2.2.1),
    (s.2.2.2.2.2.2.2.2.2.1, s.2.2.2.2.2.2.2.2.2.2.1, s.2.2.2.2.2.2.2.2.2.2.2)]

section Loop

variable (𝒱 : Variants) (c : Dev nD) (bd : Option 𝒱.V) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (v3 v6 v9 v12 : Vec Ideal S384x128 .f32)
    (X_arg6 : BufTy.Contents (Elt Ideal) arg6.view.ty) (X_arg9 : BufTy.Contents (Elt Ideal) arg9.view.ty)
    (X_arg10 : BufTy.Contents (Elt Ideal) arg10.view.ty)

/-- The loads of one head in one trip, through its rectangles. -/
noncomputable def stepAt (q : FVec Ideal S384x128 .bf16) (o : Fin 2 → ℕ)
    (ho : ∀ a, o a + S384x128.size a ≤ S4224x512.size a) (o' : Fin 4 → ℕ)
    (ho' : ∀ a, o' a + S1x1x1x384.size a ≤ S4x11x1x384.size a) (s : Step.St) : Step.St :=
  Step.upd (Step.tile q
      (View.readAt (Elt Ideal) arg9.view (Rect.unit (s := S4224x512) o S384x128.size ho).toLoadRect X_arg9)
      (View.readAt (Elt Ideal) arg6.view (Rect.unit (s := S4x11x1x384) o' S1x1x1x384.size ho').toLoadRect X_arg6))
    (View.readAt (Elt Ideal) arg10.view (Rect.unit (s := S4224x512) o S384x128.size ho).toLoadRect X_arg10) s

/-- One trip steps each head. -/
theorem trip_eq (k : Fin (k0_t1_loop i).trips) (acc : St4) :
    (trip_k0_t1 (F := Ideal) 𝒱 c bd i arg3 harg3 arg4 harg4 arg5 harg5 arg6 harg6 arg7 harg7 arg8 harg8 arg9 harg9 arg10 harg10
      v3 v6 v9 v12 X_arg6 X_arg9 X_arg10 k).1 acc
      = pack ![stepAt arg6 arg9 arg10 X_arg6 X_arg9 X_arg10 (k0_pay46 v3) _ (k0_off1_inb i k) _ (k0_off2_inb i k) (unpack acc 0),
          stepAt arg6 arg9 arg10 X_arg6 X_arg9 X_arg10 (k0_pay47 v6) _ (k0_off3_inb i k) _ (k0_off4_inb i k) (unpack acc 1),
          stepAt arg6 arg9 arg10 X_arg6 X_arg9 X_arg10 (k0_pay48 v9) _ (k0_off5_inb i k) _ (k0_off6_inb i k) (unpack acc 2),
          stepAt arg6 arg9 arg10 X_arg6 X_arg9 X_arg10 (k0_pay49 v12) _ (k0_off7_inb i k) _ (k0_off8_inb i k) (unpack acc 3)] := by
  unfold trip_k0_t1
  rfl

end Loop

/-- The first loop makes as many trips as there are key blocks before the diagonal. -/
theorem trips_eq (i : grid0.Coords) : (k0_t1_loop i).trips = (i 2).val := by
  revert i; decide +kernel

/-- The loads of one trip are the head's blocks. -/
theorem stepAt_eq (arg6 : Memref sig .tc .vmem S4x11x1x384 .f32)
    (arg9 : Memref sig .tc .vmem S4224x512 .bf16) (arg10 : Memref sig .tc .vmem S4224x512 .bf16)
    (X_arg6 : BufTy.Contents (Elt Ideal) arg6.view.ty) (X_arg9 : BufTy.Contents (Elt Ideal) arg9.view.ty)
    (X_arg10 : BufTy.Contents (Elt Ideal) arg10.view.ty) (q : FVec Ideal S384x128 .bf16) (h : Fin 4) (j : ℕ) (hj : j < 11)
    (o : Fin 2 → ℕ) (ho) (o' : Fin 4 → ℕ) (ho') (s : Step.St)
    (e : o = ![384 * j, 128 * h.val]) (e' : o' = ![h.val, j, 0, 0]) :
    stepAt arg6 arg9 arg10 X_arg6 X_arg9 X_arg10 q o ho o' ho' s
      = Step.upd (Step.tile q (kblk (arg9.view.read (Elt Ideal) X_arg9) h j) (cblk (arg6.view.read (Elt Ideal) X_arg6) h j))
          (kblk (arg10.view.read (Elt Ideal) X_arg10) h j) s := by
  unfold stepAt
  simp only [View.readAt_eq_ld]
  rw [← ld_kblk _ h j hj o e ho, ← ld_kblk _ h j hj o e ho, ← ld_cblk _ h j hj o' e' ho']

/-- The carried value before trip `n` of the first loop. -/
theorem st_eq (𝒱 : Variants) (c : Dev nD) (bd : Option 𝒱.V) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (v3 v6 v9 v12 : Vec Ideal S384x128 .f32)
    (X_arg6 : BufTy.Contents (Elt Ideal) arg6.view.ty) (X_arg9 : BufTy.Contents (Elt Ideal) arg9.view.ty)
    (X_arg10 : BufTy.Contents (Elt Ideal) arg10.view.ty)
    (Q : FVec Ideal S384x512 .f32) (K V : FVec Ideal S4224x512 .bf16) (C : FVec Ideal S4x11x1x384 .f32)
    (h3 : k0_pay46 v3 = qblk Q 0) (h6 : k0_pay47 v6 = qblk Q 1) (h9 : k0_pay48 v9 = qblk Q 2) (h12 : k0_pay49 v12 = qblk Q 3)
    (hK : arg9.view.read (Elt Ideal) X_arg9 = K) (hV : arg10.view.read (Elt Ideal) X_arg10 = V)
    (hC : arg6.view.read (Elt Ideal) X_arg6 = C) (n : ℕ) (hn : n ≤ (i 2).val) :
    st_k0_t1 (F := Ideal) 𝒱 c bd i arg3 harg3 arg4 harg4 arg5 harg5 arg6 harg6 arg7 harg7 arg8 harg8 arg9 harg9 arg10 harg10
      v3 v6 v9 v12 X_arg6 X_arg9 X_arg10
      (k0_pay51, k0_pay52, k0_pay53, k0_pay51, k0_pay52, k0_pay53, k0_pay51, k0_pay52, k0_pay53, k0_pay51, k0_pay52, k0_pay53) n
      = pack fun h => fold Q K V C h n := by
  induction n with
  | zero => rfl
  | succ n ih =>
    have hi : (i 2).val < 11 := (i 2).isLt
    have hk : n < (k0_t1_loop i).trips := by rw [trips_eq]; omega
    have hs := st_k0_t1_succ (F := Ideal) 𝒱 c bd i arg3 harg3 arg4 harg4 arg5 harg5 arg6 harg6 arg7 harg7 arg8 harg8 arg9 harg9 arg10 harg10
      v3 v6 v9 v12 X_arg6 X_arg9 X_arg10
      (k0_pay51, k0_pay52, k0_pay53, k0_pay51, k0_pay52, k0_pay53, k0_pay51, k0_pay52, k0_pay53, k0_pay51, k0_pay52, k0_pay53) ⟨n, hk⟩
    rw [hs, ih (by omega), tripR_k0_t1, trip_eq]
    rw [stepAt_eq _ _ _ _ _ _ _ 0 n (by omega) _ _ _ _ _ (k0_off1_eq i ⟨n, hk⟩) (k0_off2_eq i ⟨n, hk⟩),
      stepAt_eq _ _ _ _ _ _ _ 1 n (by omega) _ _ _ _ _ (k0_off3_eq i ⟨n, hk⟩) (k0_off4_eq i ⟨n, hk⟩),
      stepAt_eq _ _ _ _ _ _ _ 2 n (by omega) _ _ _ _ _ (k0_off5_eq i ⟨n, hk⟩) (k0_off6_eq i ⟨n, hk⟩),
      stepAt_eq _ _ _ _ _ _ _ 3 n (by omega) _ _ _ _ _ (k0_off7_eq i ⟨n, hk⟩) (k0_off8_eq i ⟨n, hk⟩)]
    rw [h3, h6, h9, h12, hK, hV, hC]
    rfl

end Cert.Proof.Body
-- ==== Proof.Out.lean ====
module

public import proofs.«01_k».proof.Proof.Body
public import Idealize.ShloMosaic.Lib.VecWindow

@[expose] public section

/-! What one grid point stores into the output block, as one function of the blocks it reads. -/

open Idealize.ShloMosaic Idealize.ShloMosaic.TcCoe Idealize.ShloMosaic.Tactic Idealize.SL.Sem
open Cert.KernelIdeal Cert.KernelIdeal.Gen

namespace Cert.Proof.Body

/-- One head's block of the output, from its carried state, through its rectangles. -/
noncomputable def headAt (i : grid0.Coords) (arg6 : Memref sig .tc .vmem S4x11x1x384 .f32)
    (arg9 : Memref sig .tc .vmem S4224x512 .bf16) (arg10 : Memref sig .tc .vmem S4224x512 .bf16)
    (X_arg6 : BufTy.Contents (Elt Ideal) arg6.view.ty) (X_arg9 : BufTy.Contents (Elt Ideal) arg9.view.ty)
    (X_arg10 : BufTy.Contents (Elt Ideal) arg10.view.ty) (q : FVec Ideal S384x128 .bf16) (o : Fin 2 → ℕ)
    (ho : ∀ a, o a + S384x128.size a ≤ S4224x512.size a) (o' : Fin 4 → ℕ)
    (ho' : ∀ a, o' a + S1x1x1x384.size a ≤ S4x11x1x384.size a) (s : Step.St)
    (w : FVec Ideal S1x128x256 .bf16) : FVec Ideal S384x256 .f32 :=
  have t := Step.masked i (Step.tile q
      (View.readAt (Elt Ideal) arg9.view (Rect.unit (s := S4224x512) o S384x128.size ho).toLoadRect X_arg9)
      (View.readAt (Elt Ideal) arg6.view (Rect.unit (s := S4x11x1x384) o' S1x1x1x384.size ho').toLoadRect X_arg6))
  have v := View.readAt (Elt Ideal) arg10.view (Rect.unit (s := S4224x512) o S384x128.size ho).toLoadRect X_arg10
  k0_pay93 (Step.upd t v s).2.1 (Step.upd t v s).2.2 w

/-- It is the head's block of the output. -/
theorem headAt_eq (i : grid0.Coords) (arg6 : Memref sig .tc .vmem S4x11x1x384 .f32)
    (arg9 : Memref sig .tc .vmem S4224x512 .bf16) (arg10 : Memref sig .tc .vmem S4224x512 .bf16)
    (X_arg6 : BufTy.Contents (Elt Ideal) arg6.view.ty) (X_arg9 : BufTy.Contents (Elt Ideal) arg9.view.ty)
    (X_arg10 : BufTy.Contents (Elt Ideal) arg10.view.ty) (h : Fin 4)
    (Q : FVec Ideal S384x512 .f32) (K V : FVec Ideal S4224x512 .bf16) (C : FVec Ideal S4x11x1x384 .f32)
    (W : FVec Ideal S4x128x256 .bf16) (q : FVec Ideal S384x128 .bf16)
    (o : Fin 2 → ℕ) (ho) (o' : Fin 4 → ℕ) (ho') (s : Step.St) (w : FVec Ideal S1x128x256 .bf16)
    (hq : q = qblk Q h) (hK : arg9.view.read (Elt Ideal) X_arg9 = K) (hV : arg10.view.read (Elt Ideal) X_arg10 = V)
    (hC : arg6.view.read (Elt Ideal) X_arg6 = C) (hw : w = wblk W h)
    (e : o = ![384 * (i 2).val, 128 * h.val]) (e' : o' = ![h.val, (i 2).val, 0, 0])
    (hs : s = fold Q K V C h (i 2).val) :
    headAt i arg6 arg9 arg10 X_arg6 X_arg9 X_arg10 q o ho o' ho' s w = headOut i Q K V C W h := by
  have hi : (i 2).val < 11 := (i 2).isLt
  unfold headAt headOut last logits
  simp only [View.readAt_eq_ld]
  rw [hK, hV, hC, ld_kblk _ h _ hi o e ho, ld_kblk _ h _ hi o e ho, ld_cblk _ h _ hi o' e' ho', hw, hq, hs]

/-- The carried value after both loops. -/
noncomputable def carried (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (X_arg3 : BufTy.Contents (Elt Ideal) arg3.view.ty) (X_arg6 : BufTy.Contents (Elt Ideal) arg6.view.ty)
    (X_arg9 : BufTy.Contents (Elt Ideal) arg9.view.ty) (X_arg10 : BufTy.Contents (Elt Ideal) arg10.view.ty) : St4 :=
  have S : St4 := (st_k0_t1 (F := Ideal) Variants.none c none i arg3 harg3 arg4 harg4 arg5 harg5 arg6 harg6 arg7 harg7 arg8 harg8 arg9 harg9 arg10 harg10
      (View.readAt (Elt Ideal) arg3.view (Rect.unit (s := S384x512) ![0, 0] S384x128.size inb_S384x512_S384x128_0_0).toLoadRect X_arg3)
      (View.readAt (Elt Ideal) arg3.view (Rect.unit (s := S384x512) ![0, 128] S384x128.size inb_S384x512_S384x128_0_128).toLoadRect X_arg3)
      (View.readAt (Elt Ideal) arg3.view (Rect.unit (s := S384x512) ![0, 256] S384x128.size inb_S384x512_S384x128_0_256).toLoadRect X_arg3)
      (View.readAt (Elt Ideal) arg3.view (Rect.unit (s := S384x512) ![0, 384] S384x128.size inb_S384x512_S384x128_0_384).toLoadRect X_arg3)
      X_arg6 X_arg9 X_arg10
      (k0_pay51, k0_pay52, k0_pay53, k0_pay51, k0_pay52, k0_pay53, k0_pay51, k0_pay52, k0_pay53, k0_pay51, k0_pay52, k0_pay53)
      (Scf.trips (k0_t1_loop i).lb (k0_t1_loop i).ub (k0_t1_loop i).st))
  st_k0_t2 (F := Ideal) Variants.none c none i arg3 harg3 arg4 harg4 arg5 harg5 arg6 harg6 arg7 harg7 arg8 harg8 arg9 harg9 arg10 harg10
      (View.readAt (Elt Ideal) arg3.view (Rect.unit (s := S384x512) ![0, 0] S384x128.size inb_S384x512_S384x128_0_0).toLoadRect X_arg3)
      (View.readAt (Elt Ideal) arg3.view (Rect.unit (s := S384x512) ![0, 128] S384x128.size inb_S384x512_S384x128_0_128).toLoadRect X_arg3)
      (View.readAt (Elt Ideal) arg3.view (Rect.unit (s := S384x512) ![0, 256] S384x128.size inb_S384x512_S384x128_0_256).toLoadRect X_arg3)
      (View.readAt (Elt Ideal) arg3.view (Rect.unit (s := S384x512) ![0, 384] S384x128.size inb_S384x512_S384x128_0_384).toLoadRect X_arg3)
      (k0_t1_loop i).ub X_arg6 X_arg9 X_arg10
      (S.1, S.2.1, S.2.2.1, S.2.2.2.1, S.2.2.2.2.1, S.2.2.2.2.2.1, S.2.2.2.2.2.2.1, S.2.2.2.2.2.2.2.1, S.2.2.2.2.2.2.2.2.1, S.2.2.2.2.2.2.2.2.2.1, S.2.2.2.2.2.2.2.2.2.2.1, S.2.2.2.2.2.2.2.2.2.2.2)
      (Scf.trips (k0_t2_loop i).lb (k0_t2_loop i).ub (k0_t2_loop i).st)

attribute [local irreducible] st_k0_t1 st_k0_t2 View.readAt View.writes Scf.trips

/-- The four stores of a point, last first. -/
noncomputable def pieces (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (X_arg3 : BufTy.Contents (Elt Ideal) arg3.view.ty) (X_arg6 : BufTy.Contents (Elt Ideal) arg6.view.ty)
    (X_arg7 : BufTy.Contents (Elt Ideal) arg7.view.ty) (X_arg9 : BufTy.Contents (Elt Ideal) arg9.view.ty)
    (X_arg10 : BufTy.Contents (Elt Ideal) arg10.view.ty) :
    List (View.Piece (Elt Ideal) S384x1024 .f32) :=
  [⟨Rect.unit (s := S384x1024) ![0, 768] S384x256.size inb_S384x1024_S384x256_0_768,
      headAt i arg6 arg9 arg10 X_arg6 X_arg9 X_arg10 (k0_pay49 (View.readAt (Elt Ideal) arg3.view (Rect.unit (s := S384x512) ![0, 384] S384x128.size inb_S384x512_S384x128_0_384).toLoadRect X_arg3))
        _ (k0_off23_inb i) _ (k0_off24_inb i) (unpack (carried c i arg3 harg3 arg4 harg4 arg5 harg5 arg6 harg6 arg7 harg7 arg8 harg8 arg9 harg9 arg10 harg10 X_arg3 X_arg6 X_arg9 X_arg10) 3)
        (View.readAt (Elt Ideal) arg7.view (Rect.unit (s := S4x128x256) ![3, 0, 0] S1x128x256.size inb_S4x128x256_S1x128x256_3_0_0).toLoadRect X_arg7)⟩,
   ⟨Rect.unit (s := S384x1024) ![0, 512] S384x256.size inb_S384x1024_S384x256_0_512,
      headAt i arg6 arg9 arg10 X_arg6 X_arg9 X_arg10 (k0_pay48 (View.readAt (Elt Ideal) arg3.view (Rect.unit (s := S384x512) ![0, 256] S384x128.size inb_S384x512_S384x128_0_256).toLoadRect X_arg3))
        _ (k0_off21_inb i) _ (k0_off22_inb i) (unpack (carried c i arg3 harg3 arg4 harg4 arg5 harg5 arg6 harg6 arg7 harg7 arg8 harg8 arg9 harg9 arg10 harg10 X_arg3 X_arg6 X_arg9 X_arg10) 2)
        (View.readAt (Elt Ideal) arg7.view (Rect.unit (s := S4x128x256) ![2, 0, 0] S1x128x256.size inb_S4x128x256_S1x128x256_2_0_0).toLoadRect X_arg7)⟩,
   ⟨Rect.unit (s := S384x1024) ![0, 256] S384x256.size inb_S384x1024_S384x256_0_256,
      headAt i arg6 arg9 arg10 X_arg6 X_arg9 X_arg10 (k0_pay47 (View.readAt (Elt Ideal) arg3.view (Rect.unit (s := S384x512) ![0, 128] S384x128.size inb_S384x512_S384x128_0_128).toLoadRect X_arg3))
        _ (k0_off19_inb i) _ (k0_off20_inb i) (unpack (carried c i arg3 harg3 arg4 harg4 arg5 harg5 arg6 harg6 arg7 harg7 arg8 harg8 arg9 harg9 arg10 harg10 X_arg3 X_arg6 X_arg9 X_arg10) 1)
        (View.readAt (Elt Ideal) arg7.view (Rect.unit (s := S4x128x256) ![1, 0, 0] S1x128x256.size inb_S4x128x256_S1x128x256_1_0_0).toLoadRect X_arg7)⟩,
   ⟨Rect.unit (s := S384x1024) ![0, 0] S384x256.size inb_S384x1024_S384x256_0_0,
      headAt i arg6 arg9 arg10 X_arg6 X_arg9 X_arg10 (k0_pay46 (View.readAt (Elt Ideal) arg3.view (Rect.unit (s := S384x512) ![0, 0] S384x128.size inb_S384x512_S384x128_0_0).toLoadRect X_arg3))
        _ (k0_off17_inb i) _ (k0_off18_inb i) (unpack (carried c i arg3 harg3 arg4 harg4 arg5 harg5 arg6 harg6 arg7 harg7 arg8 harg8 arg9 harg9 arg10 harg10 X_arg3 X_arg6 X_arg9 X_arg10) 0)
        (View.readAt (Elt Ideal) arg7.view (Rect.unit (s := S4x128x256) ![0, 0, 0] S1x128x256.size inb_S4x128x256_S1x128x256_0_0_0).toLoadRect X_arg7)⟩]

set_option maxHeartbeats 4000000 in
/-- The first point of a row's stores are those. -/
theorem run_A (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : cond0_0 i) (x0 : Vec Ideal S384x512 .f32) (x1 x2 : Vec Ideal S4224x512 .f32) (x3 : Vec Ideal S4x11x1x384 .f32)
    (x4 : Vec Ideal S4x128x256 .bf16) :
    (kernelRun0_A (F := Ideal) c i arg3 harg3 arg4 harg4 arg5 harg5 arg6 harg6 arg7 harg7 arg8 harg8 arg9 harg9 arg10 harg10 hc0 x0 x1 x2 x3 x4).1
      = pieces c i arg3 harg3 arg4 harg4 arg5 harg5 arg6 harg6 arg7 harg7 arg8 harg8 arg9 harg9 arg10 harg10 (harg3.unread x0) (harg6.unread x3) (harg7.unread x4)
          (arg9.view.writes (Elt Ideal) arg9.view.junk [⟨Rect.unit (s := S4224x512) ![0, 0] S4224x512.size inb_S4224x512_S4224x512_0_0, k0_pay44 (View.readAt (Elt Ideal) arg4.view (Rect.unit (s := S4224x512) ![0, 0] S4224x512.size inb_S4224x512_S4224x512_0_0).toLoadRect (harg4.unread x1))⟩])
          (arg10.view.writes (Elt Ideal) arg10.view.junk [⟨Rect.unit (s := S4224x512) ![0, 0] S4224x512.size inb_S4224x512_S4224x512_0_0, k0_pay45 (View.readAt (Elt Ideal) arg5.view (Rect.unit (s := S4224x512) ![0, 0] S4224x512.size inb_S4224x512_S4224x512_0_0).toLoadRect (harg5.unread x2))⟩]) := by
  unfold kernelRun0_A
  rfl

set_option maxHeartbeats 4000000 in
/-- Any other point's stores are those. -/
theorem run_B (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : ¬ cond0_0 i) (x0 : Vec Ideal S384x512 .f32) (x1 x2 : Vec Ideal S4224x512 .f32) (x3 : Vec Ideal S4x11x1x384 .f32)
    (x4 : Vec Ideal S4x128x256 .bf16) (xs0 xs1 : Vec Ideal S4224x512 .bf16) :
    (kernelRun0_B (F := Ideal) c i arg3 harg3 arg4 harg4 arg5 harg5 arg6 harg6 arg7 harg7 arg8 harg8 arg9 harg9 arg10 harg10 hc0 x0 x1 x2 x3 x4 xs0 xs1).1
      = pieces c i arg3 harg3 arg4 harg4 arg5 harg5 arg6 harg6 arg7 harg7 arg8 harg8 arg9 harg9 arg10 harg10 (harg3.unread x0) (harg6.unread x3) (harg7.unread x4)
          (harg9.unread xs0) (harg10.unread xs1) := by
  unfold kernelRun0_B
  rfl

attribute [local semireducible] st_k0_t1 st_k0_t2 View.readAt View.writes Scf.trips

/-- After both loops each head's state is the fold over the blocks before the diagonal. -/
theorem carried_eq (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (X_arg3 : BufTy.Contents (Elt Ideal) arg3.view.ty) (X_arg6 : BufTy.Contents (Elt Ideal) arg6.view.ty)
    (X_arg9 : BufTy.Contents (Elt Ideal) arg9.view.ty) (X_arg10 : BufTy.Contents (Elt Ideal) arg10.view.ty)
    (Q : FVec Ideal S384x512 .f32) (K V : FVec Ideal S4224x512 .bf16) (C : FVec Ideal S4x11x1x384 .f32)
    (hQ : arg3.view.read (Elt Ideal) X_arg3 = Q)
    (hK : arg9.view.read (Elt Ideal) X_arg9 = K) (hV : arg10.view.read (Elt Ideal) X_arg10 = V)
    (hC : arg6.view.read (Elt Ideal) X_arg6 = C) :
    carried c i arg3 harg3 arg4 harg4 arg5 harg5 arg6 harg6 arg7 harg7 arg8 harg8 arg9 harg9 arg10 harg10 X_arg3 X_arg6 X_arg9 X_arg10 = pack fun h => fold Q K V C h (i 2).val := by
  unfold carried
  have h2 : Scf.trips (k0_t2_loop i).lb (k0_t2_loop i).ub (k0_t2_loop i).st = 0 := by
    revert i; decide +kernel
  have h1 : Scf.trips (k0_t1_loop i).lb (k0_t1_loop i).ub (k0_t1_loop i).st = (i 2).val := trips_eq i
  rw [h2, st_k0_t2_zero, h1]
  apply st_eq <;> first | assumption | exact le_refl _ | skip
  all_goals simp only [View.readAt_eq_ld, hQ]
  · exact ld_qblk Q 0 _ rfl _
  · exact ld_qblk Q 1 _ rfl _
  · exact ld_qblk Q 2 _ rfl _
  · exact ld_qblk Q 3 _ rfl _

/-- The output block of a point. -/
noncomputable def blockOut (i : grid0.Coords) (Q : FVec Ideal S384x512 .f32) (K V : FVec Ideal S4224x512 .bf16)
    (C : FVec Ideal S4x11x1x384 .f32) (W : FVec Ideal S4x128x256 .bf16) : FVec Ideal S384x1024 .f32 :=
  fun y => headOut i Q K V C W ⟨(y 1).val / 256, by have : (y 1).val < 1024 := (y 1).isLt; omega⟩
    (ix2 (y 0) ⟨(y 1).val % 256, Nat.mod_lt _ (by norm_num)⟩)

theorem pieces_eq (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (X_arg3 : BufTy.Contents (Elt Ideal) arg3.view.ty) (X_arg6 : BufTy.Contents (Elt Ideal) arg6.view.ty)
    (X_arg7 : BufTy.Contents (Elt Ideal) arg7.view.ty) (X_arg9 : BufTy.Contents (Elt Ideal) arg9.view.ty)
    (X_arg10 : BufTy.Contents (Elt Ideal) arg10.view.ty)
    (Q : FVec Ideal S384x512 .f32) (K V : FVec Ideal S4224x512 .bf16) (C : FVec Ideal S4x11x1x384 .f32)
    (W : FVec Ideal S4x128x256 .bf16)
    (hQ : arg3.view.read (Elt Ideal) X_arg3 = Q)
    (hK : arg9.view.read (Elt Ideal) X_arg9 = K) (hV : arg10.view.read (Elt Ideal) X_arg10 = V)
    (hC : arg6.view.read (Elt Ideal) X_arg6 = C) (hW : arg7.view.read (Elt Ideal) X_arg7 = W) :
    ∀ p ∈ pieces c i arg3 harg3 arg4 harg4 arg5 harg5 arg6 harg6 arg7 harg7 arg8 harg8 arg9 harg9 arg10 harg10 X_arg3 X_arg6 X_arg7 X_arg9 X_arg10,
      ∀ x : p.1.shape.Idx, p.2 x = blockOut i Q K V C W (p.1.emb x) := by
  unfold pieces
  rw [carried_eq c i arg3 harg3 arg4 harg4 arg5 harg5 arg6 harg6 arg7 harg7 arg8 harg8 arg9 harg9 arg10 harg10 _ _ _ _ Q K V C hQ hK hV hC]
  intro p hp
  simp only [List.mem_cons, List.not_mem_nil, or_false] at hp
  have key : ∀ (h : Fin 4) (o : Fin 2 → ℕ) (inb) (e : o = ![0, 256 * h.val]) (x : S384x256.Idx),
      blockOut i Q K V C W ((Rect.unit (s := S384x1024) o S384x256.size inb).emb x) = headOut i Q K V C W h x := by
    intro h o inb e x
    subst e
    idx_vars x
    have b1 : x1.val < 256 := x1.isLt
    unfold blockOut
    have e0 : (((Rect.unit (s := S384x1024) ![0, 256 * h.val] S384x256.size inb).emb (ix2 x0 x1)) 0).val = x0.val := by
      show 0 + 1 * x0.val = x0.val
      omega
    have e1 : (((Rect.unit (s := S384x1024) ![0, 256 * h.val] S384x256.size inb).emb (ix2 x0 x1)) 1).val
        = 256 * h.val + x1.val := by
      show 256 * h.val + 1 * x1.val = _
      omega
    have a0 : ((Rect.unit (s := S384x1024) ![0, 256 * h.val] S384x256.size inb).emb (ix2 x0 x1)) 0 = x0 := Fin.ext e0
    rw [a0]
    simp only [e1]
    refine congr (congrArg (headOut i Q K V C W) ?_) ?_
    · apply Fin.ext; show (256 * h.val + x1.val) / 256 = h.val; omega
    · congr 1; apply Fin.ext; show (256 * h.val + x1.val) % 256 = x1.val; omega
  rcases hp with rfl | rfl | rfl | rfl
  · intro x
    refine Eq.trans ?_ (key 3 ![0, 768] inb_S384x1024_S384x256_0_768 rfl x).symm
    refine congrFun (headAt_eq i arg6 arg9 arg10 _ _ _ 3 Q K V C W _ _ _ _ _ _ _ ?_ hK hV hC ?_ (k0_off23_eq i) (k0_off24_eq i) rfl) x
    · simp only [View.readAt_eq_ld, hQ]; exact ld_qblk Q 3 _ rfl _
    · simp only [View.readAt_eq_ld, hW]; exact ld_wblk W 3 _ rfl _
  · intro x
    refine Eq.trans ?_ (key 2 ![0, 512] inb_S384x1024_S384x256_0_512 rfl x).symm
    refine congrFun (headAt_eq i arg6 arg9 arg10 _ _ _ 2 Q K V C W _ _ _ _ _ _ _ ?_ hK hV hC ?_ (k0_off21_eq i) (k0_off22_eq i) rfl) x
    · simp only [View.readAt_eq_ld, hQ]; exact ld_qblk Q 2 _ rfl _
    · simp only [View.readAt_eq_ld, hW]; exact ld_wblk W 2 _ rfl _
  · intro x
    refine Eq.trans ?_ (key 1 ![0, 256] inb_S384x1024_S384x256_0_256 rfl x).symm
    refine congrFun (headAt_eq i arg6 arg9 arg10 _ _ _ 1 Q K V C W _ _ _ _ _ _ _ ?_ hK hV hC ?_ (k0_off19_eq i) (k0_off20_eq i) rfl) x
    · simp only [View.readAt_eq_ld, hQ]; exact ld_qblk Q 1 _ rfl _
    · simp only [View.readAt_eq_ld, hW]; exact ld_wblk W 1 _ rfl _
  · intro x
    refine Eq.trans ?_ (key 0 ![0, 0] inb_S384x1024_S384x256_0_0 rfl x).symm
    refine congrFun (headAt_eq i arg6 arg9 arg10 _ _ _ 0 Q K V C W _ _ _ _ _ _ _ ?_ hK hV hC ?_ (k0_off17_eq i) (k0_off18_eq i) rfl) x
    · simp only [View.readAt_eq_ld, hQ]; exact ld_qblk Q 0 _ rfl _
    · simp only [View.readAt_eq_ld, hW]; exact ld_wblk W 0 _ rfl _

/-- The first point of a row of blocks: keys and values are read from the point's own inputs. -/
theorem out_A (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : cond0_0 i) (x0 : Vec Ideal S384x512 .f32) (x1 x2 : Vec Ideal S4224x512 .f32) (x3 : Vec Ideal S4x11x1x384 .f32)
    (x4 : Vec Ideal S4x128x256 .bf16) :
    out0_A_5 (F := Ideal) c i arg3 harg3 arg4 harg4 arg5 harg5 arg6 harg6 arg7 harg7 arg8 harg8 arg9 harg9 arg10 harg10 hc0 x0 x1 x2 x3 x4 = blockOut i x0 x1 x2 x3 x4 := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4)]
  funext y
  refine View.canon_apply_of_pieces (blockOut i x0 x1 x2 x3 x4) _ ?_ y
    (cover0_A_5 c i arg3 harg3 arg4 harg4 arg5 harg5 arg6 harg6 arg7 harg7 arg8 harg8 arg9 harg9 arg10 harg10 hc0 x0 x1 x2 x3 x4 y)
  rw [run_A]
  refine pieces_eq c i arg3 harg3 arg4 harg4 arg5 harg5 arg6 harg6 arg7 harg7 arg8 harg8 arg9 harg9 arg10 harg10 _ _ _ _ _ _ _ _ _ _ ?_ ?_ ?_ ?_ ?_
  · exact harg3.read_unread _
  · rw [View.read_writes_full]
    rw [View.readAt_full, harg4.read_unread]
    unfold k0_pay44
    funext z
    pointwise
  · rw [View.read_writes_full]
    rw [View.readAt_full, harg5.read_unread]
    unfold k0_pay45
    funext z
    pointwise
  · exact harg6.read_unread _
  · exact harg7.read_unread _

/-- Any other point: keys and values are the ones carried. -/
theorem out_B (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : ¬ cond0_0 i) (x0 : Vec Ideal S384x512 .f32) (x1 x2 : Vec Ideal S4224x512 .f32) (x3 : Vec Ideal S4x11x1x384 .f32)
    (x4 : Vec Ideal S4x128x256 .bf16) (xs0 xs1 : Vec Ideal S4224x512 .bf16) :
    out0_B_5 (F := Ideal) c i arg3 harg3 arg4 harg4 arg5 harg5 arg6 harg6 arg7 harg7 arg8 harg8 arg9 harg9 arg10 harg10 hc0 x0 x1 x2 x3 x4 xs0 xs1 = blockOut i x0 xs0 xs1 x3 x4 := by
  unfold out0_B_5
  rw [View.read_writes_eq_canon _ _ _ (cover0_B_5 c i arg3 harg3 arg4 harg4 arg5 harg5 arg6 harg6 arg7 harg7 arg8 harg8 arg9 harg9 arg10 harg10 hc0 x0 x1 x2 x3 x4 xs0 xs1)]
  funext y
  refine View.canon_apply_of_pieces (blockOut i x0 xs0 xs1 x3 x4) _ ?_ y
    (cover0_B_5 c i arg3 harg3 arg4 harg4 arg5 harg5 arg6 harg6 arg7 harg7 arg8 harg8 arg9 harg9 arg10 harg10 hc0 x0 x1 x2 x3 x4 xs0 xs1 y)
  rw [run_B]
  refine pieces_eq c i arg3 harg3 arg4 harg4 arg5 harg5 arg6 harg6 arg7 harg7 arg8 harg8 arg9 harg9 arg10 harg10 _ _ _ _ _ _ _ _ _ _ ?_ ?_ ?_ ?_ ?_
  · exact harg3.read_unread _
  · exact harg9.read_unread _
  · exact harg10.read_unread _
  · exact harg6.read_unread _
  · exact harg7.read_unread _

/-- What the first point of a row leaves in the key scratch. -/
theorem sout_A_0 (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : cond0_0 i) (x0 : Vec Ideal S384x512 .f32) (x1 x2 : Vec Ideal S4224x512 .f32) (x3 : Vec Ideal S4x11x1x384 .f32)
    (x4 : Vec Ideal S4x128x256 .bf16) :
    sout0_A_0 (F := Ideal) c i arg3 harg3 arg4 harg4 arg5 harg5 arg6 harg6 arg7 harg7 arg8 harg8 arg9 harg9 arg10 harg10 hc0 x0 x1 x2 x3 x4 = x1 := by
  unfold sout0_A_0
  show VS0_0.read (Elt Ideal) (VS0_0.writes (Elt Ideal) VS0_0.junk
    [⟨Rect.unit (s := S4224x512) ![0, 0] S4224x512.size inb_S4224x512_S4224x512_0_0, k0_pay44 (View.readAt (Elt Ideal) arg4.view (Rect.unit (s := S4224x512) ![0, 0] S4224x512.size inb_S4224x512_S4224x512_0_0).toLoadRect (harg4.unread x1))⟩]) = x1
  rw [View.read_writes_full]
  rw [View.readAt_full, harg4.read_unread]
  unfold k0_pay44
  funext z
  pointwise

/-- What the first point of a row leaves in the value scratch. -/
theorem sout_A_1 (c : Dev nD) (i : grid0.Coords)
    (arg3 : Memref sig .tc .vmem S384x512 .f32) (harg3 : arg3.IsWhole) (arg4 : Memref sig .tc .vmem S4224x512 .f32)
    (harg4 : arg4.IsWhole) (arg5 : Memref sig .tc .vmem S4224x512 .f32) (harg5 : arg5.IsWhole)
    (arg6 : Memref sig .tc .vmem S4x11x1x384 .f32) (harg6 : arg6.IsWhole) (arg7 : Memref sig .tc .vmem S4x128x256 .bf16)
    (harg7 : arg7.IsWhole) (arg8 : Memref sig .tc .vmem S384x1024 .f32) (harg8 : arg8.IsWhole)
    (arg9 : Memref sig .tc .vmem S4224x512 .bf16) (harg9 : arg9.IsWhole) (arg10 : Memref sig .tc .vmem S4224x512 .bf16)
    (harg10 : arg10.IsWhole)
    (hc0 : cond0_0 i) (x0 : Vec Ideal S384x512 .f32) (x1 x2 : Vec Ideal S4224x512 .f32) (x3 : Vec Ideal S4x11x1x384 .f32)
    (x4 : Vec Ideal S4x128x256 .bf16) :
    sout0_A_1 (F := Ideal) c i arg3 harg3 arg4 harg4 arg5 harg5 arg6 harg6 arg7 harg7 arg8 harg8 arg9 harg9 arg10 harg10 hc0 x0 x1 x2 x3 x4 = x2 := by
  unfold sout0_A_1
  show VS0_1.read (Elt Ideal) (VS0_1.writes (Elt Ideal) VS0_1.junk
    [⟨Rect.unit (s := S4224x512) ![0, 0] S4224x512.size inb_S4224x512_S4224x512_0_0, k0_pay45 (View.readAt (Elt Ideal) arg5.view (Rect.unit (s := S4224x512) ![0, 0] S4224x512.size inb_S4224x512_S4224x512_0_0).toLoadRect (harg5.unread x2))⟩]) = x2
  rw [View.read_writes_full]
  rw [View.readAt_full, harg5.read_unread]
  unfold k0_pay45
  funext z
  pointwise

end Cert.Proof.Body
-- ==== Proof.Points.lean ====
module

public import proofs.«01_k».proof.Proof.Out
public import proofs.«01_k».proof.Proof.Gen.KernelIdeal.Value

@[expose] public section

/-! The result array of the launch, read at an index: every point's block is `Body.blockOut` of the blocks of its own
windows, the carried keys and values being the point's own windows' too. -/

open Idealize.ShloMosaic Idealize.ShloMosaic.TcCoe Idealize.ShloMosaic.Tactic Idealize.SL.Sem
open Cert.KernelIdeal Cert.KernelIdeal.Gen

namespace Cert.Proof.Points

variable (m : (ℓ : Loc nD τ sig) → Buf (Elt Ideal) ℓ)

/-- The block indices of every window, decided over the points. -/
theorem index : ∀ t : Fin cfg0.N,
    win0_0.index t = ![t.val / 44 * 11 + t.val % 11, t.val / 11 % 4]
    ∧ win0_1.index t = ![t.val / 44, 4 + t.val / 11 % 4]
    ∧ win0_2.index t = ![t.val / 44, 8 + t.val / 11 % 4]
    ∧ win0_3.index t = ![t.val / 11 % 4, t.val / 44, 0, 0]
    ∧ win0_4.index t = ![t.val / 11 % 4, 0, 0]
    ∧ win0_5.index t = ![t.val / 44 * 11 + t.val % 11, t.val / 11 % 4]
    ∧ (grid0.coords t 2).val = t.val % 11 :=
  (by decide +kernel : ∀ t : Fin grid0.N,
    win0_0.index t = ![t.val / 44 * 11 + t.val % 11, t.val / 11 % 4]
    ∧ win0_1.index t = ![t.val / 44, 4 + t.val / 11 % 4]
    ∧ win0_2.index t = ![t.val / 44, 8 + t.val / 11 % 4]
    ∧ win0_3.index t = ![t.val / 11 % 4, t.val / 44, 0, 0]
    ∧ win0_4.index t = ![t.val / 11 % 4, 0, 0]
    ∧ win0_5.index t = ![t.val / 44 * 11 + t.val % 11, t.val / 11 % 4]
    ∧ (grid0.coords t 2).val = t.val % 11)

theorem lt (t : Fin cfg0.N) : t.val < 88 := lt_of_lt_of_eq t.isLt N_0

/-- The queries of a point. -/
theorem iblk0 (c : Dev nD) (t : Fin cfg0.N) (r : Fin 384) (n : Fin 512) :
    (iblk m c 0 t : FVec Ideal S384x512 .f32) (ix2 r n)
      = (V m c main_v9 : FVec Ideal S8448x6144 .f32)
          (ix2 ⟨(t.val / 44 * 11 + t.val % 11) * 384 + r.val, by have := lt t; omega⟩
            ⟨t.val / 11 % 4 * 512 + n.val, by omega⟩) := by
  have hi := (index t).1
  unfold iblk
  rw [View.read_apply]
  show V m c main_v9 _ = _
  congr 1
  funext a
  apply Fin.ext
  match a with
  | ⟨0, _⟩ => show win0_0.index t 0 * 384 + 1 * r.val = _; rw [hi]; show (t.val / 44 * 11 + t.val % 11) * 384 + 1 * r.val = _; rw [one_mul]; rfl
  | ⟨1, _⟩ => show win0_0.index t 1 * 512 + 1 * n.val = _; rw [hi]; show (t.val / 11 % 4) * 512 + 1 * n.val = _; rw [one_mul]; rfl

/-- The keys of a point. -/
theorem iblk1 (c : Dev nD) (t : Fin cfg0.N) (r : Fin 4224) (n : Fin 512) :
    (iblk m c 1 t : FVec Ideal S4224x512 .f32) (ix2 r n)
      = (V m c main_v9 : FVec Ideal S8448x6144 .f32)
          (ix2 ⟨t.val / 44 * 4224 + r.val, by have := lt t; omega⟩
            ⟨(4 + t.val / 11 % 4) * 512 + n.val, by omega⟩) := by
  have hi := (index t).2.1
  unfold iblk
  rw [View.read_apply]
  show V m c main_v9 _ = _
  congr 1
  funext a
  apply Fin.ext
  match a with
  | ⟨0, _⟩ => show win0_1.index t 0 * 4224 + 1 * r.val = _; rw [hi]; show (t.val / 44) * 4224 + 1 * r.val = _; rw [one_mul]; rfl
  | ⟨1, _⟩ => show win0_1.index t 1 * 512 + 1 * n.val = _; rw [hi]; show (4 + t.val / 11 % 4) * 512 + 1 * n.val = _; rw [one_mul]; rfl

/-- The values of a point. -/
theorem iblk2 (c : Dev nD) (t : Fin cfg0.N) (r : Fin 4224) (n : Fin 512) :
    (iblk m c 2 t : FVec Ideal S4224x512 .f32) (ix2 r n)
      = (V m c main_v9 : FVec Ideal S8448x6144 .f32)
          (ix2 ⟨t.val / 44 * 4224 + r.val, by have := lt t; omega⟩
            ⟨(8 + t.val / 11 % 4) * 512 + n.val, by omega⟩) := by
  have hi := (index t).2.2.1
  unfold iblk
  rw [View.read_apply]
  show V m c main_v9 _ = _
  congr 1
  funext a
  apply Fin.ext
  match a with
  | ⟨0, _⟩ => show win0_2.index t 0 * 4224 + 1 * r.val = _; rw [hi]; show (t.val / 44) * 4224 + 1 * r.val = _; rw [one_mul]; rfl
  | ⟨1, _⟩ => show win0_2.index t 1 * 512 + 1 * n.val = _; rw [hi]; show (8 + t.val / 11 % 4) * 512 + 1 * n.val = _; rw [one_mul]; rfl

/-- The cumulated decays of a point. -/
theorem iblk3 (c : Dev nD) (t : Fin cfg0.N) (h : Fin 4) (j : Fin 11) (x : Fin 384) :
    (iblk m c 3 t : FVec Ideal S4x11x1x384 .f32) (ix4 h j 0 x)
      = (V m c main_v17 : FVec Ideal S16x22x1x384 .f32)
          (ix4 ⟨t.val / 11 % 4 * 4 + h.val, by omega⟩ ⟨t.val / 44 * 11 + j.val, by have := lt t; omega⟩ 0 x) := by
  have hi := (index t).2.2.2.1
  unfold iblk
  rw [View.read_apply]
  show V m c main_v17 _ = _
  congr 1
  funext a
  apply Fin.ext
  match a with
  | ⟨0, _⟩ => show win0_3.index t 0 * 4 + 1 * h.val = _; rw [hi]; show (t.val / 11 % 4) * 4 + 1 * h.val = _; rw [one_mul]; rfl
  | ⟨1, _⟩ => show win0_3.index t 1 * 11 + 1 * j.val = _; rw [hi]; show (t.val / 44) * 11 + 1 * j.val = _; rw [one_mul]; rfl
  | ⟨2, _⟩ => show win0_3.index t 2 * 1 + 1 * 0 = _; rw [hi]; rfl
  | ⟨3, _⟩ => show win0_3.index t 3 * 384 + 1 * x.val = _; rw [hi]; show 0 * 384 + 1 * x.val = _; rw [one_mul, zero_mul, zero_add]; rfl

/-- The head maps of a point. -/
theorem iblk4 (c : Dev nD) (t : Fin cfg0.N) (h : Fin 4) (d : Fin 128) (e : Fin 256) :
    (iblk m c 4 t : FVec Ideal S4x128x256 .bf16) (ix3 h d e)
      = (V m c main_v16 : FVec Ideal S16x128x256 .bf16)
          (ix3 ⟨t.val / 11 % 4 * 4 + h.val, by omega⟩ d e) := by
  have hi := (index t).2.2.2.2.1
  unfold iblk
  rw [View.read_apply]
  show V m c main_v16 _ = _
  congr 1
  funext a
  apply Fin.ext
  match a with
  | ⟨0, _⟩ => show win0_4.index t 0 * 4 + 1 * h.val = _; rw [hi]; show (t.val / 11 % 4) * 4 + 1 * h.val = _; rw [one_mul]; rfl
  | ⟨1, _⟩ => show win0_4.index t 1 * 128 + 1 * d.val = _; rw [hi]; show 0 * 128 + 1 * d.val = _; rw [one_mul, zero_mul, zero_add]; rfl
  | ⟨2, _⟩ => show win0_4.index t 2 * 256 + 1 * e.val = _; rw [hi]; show 0 * 256 + 1 * e.val = _; rw [one_mul, zero_mul, zero_add]; rfl

/-- Within a row of points the key and value blocks do not change. -/
theorem iblk_prev (c : Dev nD) (t : Fin cfg0.N) (h0 : ¬ t.val % 11 = 0) (hlt : t.val - 1 < cfg0.N) :
    (iblk m c 1 ⟨t.val - 1, hlt⟩ : FVec Ideal S4224x512 .f32) = iblk m c 1 t
    ∧ (iblk m c 2 ⟨t.val - 1, hlt⟩ : FVec Ideal S4224x512 .f32) = iblk m c 2 t := by
  have e1 : (t.val - 1) / 44 = t.val / 44 := by omega
  have e2 : (t.val - 1) / 11 = t.val / 11 := by omega
  constructor
  · funext y
    idx_vars y
    rw [iblk1, iblk1]
    simp only [e1, e2]
  · funext y
    idx_vars y
    rw [iblk2, iblk2]
    simp only [e1, e2]

/-- The carried scratches hold the point's own key and value blocks. -/
theorem scratch (c : Dev nD) : ∀ (n : ℕ) (hn : n < cfg0.N),
    (outsAt0 m c n hn).2.1 = (iblk m c 1 ⟨n, hn⟩ : FVec Ideal S4224x512 .f32)
    ∧ (outsAt0 m c n hn).2.2 = (iblk m c 2 ⟨n, hn⟩ : FVec Ideal S4224x512 .f32) := by
  intro n
  induction n with
  | zero =>
    intro hn
    rw [outsAt0_A m c ⟨0, hn⟩ (Nat.zero_mod 11)]
    dsimp only
    rw [Body.sout_A_0, Body.sout_A_1]
    exact ⟨rfl, rfl⟩
  | succ n ih =>
    intro hn
    by_cases h0 : (n + 1) % 11 = 0
    · rw [outsAt0_A m c ⟨n + 1, hn⟩ h0]
      dsimp only
      rw [Body.sout_A_0, Body.sout_A_1]
      exact ⟨rfl, rfl⟩
    · rw [outsAt0_B m c ⟨n + 1, hn⟩ h0]
      dsimp only
      unfold sout0_B_0 sout0_B_1
      have h := ih (Nat.lt_of_succ_lt hn)
      have k := iblk_prev m c ⟨n + 1, hn⟩ h0 (Nat.lt_of_succ_lt hn)
      exact ⟨h.1.trans k.1, h.2.trans k.2⟩

/-- What a point writes back. -/
theorem flushed (c : Dev nD) (t : Fin cfg0.N) :
    (dats m 0 c).flushed 5 t = (cfg0.win 5).cut (grid0.coords t)
      (Body.blockOut (grid0.coords t) (iblk m c 0 t) (iblk m c 1 t) (iblk m c 2 t) (iblk m c 3 t) (iblk m c 4 t)) := by
  by_cases h0 : t.val % 11 = 0
  · rw [Value.flushed5_A m c t h0, Body.out_A]
  · rw [Value.flushed5_B m c t h0, Body.out_B]
    have h := scratch m c (t.val - 1) (Nat.lt_of_le_of_lt (Nat.sub_le _ _) t.isLt)
    have k := iblk_prev m c t h0 (Nat.lt_of_le_of_lt (Nat.sub_le _ _) t.isLt)
    rw [h.1.trans k.1, h.2.trans k.2]

/-- The result array at an index of a point's block. -/
theorem result (c : Dev nD) (t : Fin cfg0.N) (r : Fin 384) (n : Fin 1024) :
    ((dats m 0 c).arrAt 5 cfg0.N : FVec Ideal S8448x4096 .f32)
        (ix2 ⟨(t.val / 44 * 11 + t.val % 11) * 384 + r.val, by have := lt t; omega⟩
          ⟨t.val / 11 % 4 * 1024 + n.val, by omega⟩)
      = Body.blockOut (grid0.coords t) (iblk m c 0 t) (iblk m c 1 t) (iblk m c 2 t) (iblk m c 3 t) (iblk m c 4 t)
          (ix2 r n) := by
  have hi := (index t).2.2.2.2.2.1
  have h := congrFun ((Value.blocks5 m c t (flush0_5 t)).trans (flushed m c t)) (ix2 r n)
  rw [View.read_apply] at h
  refine Eq.trans ?_ (h.trans ?_)
  · show (dats m 0 c).arrAt 5 cfg0.N _ = (dats m 0 c).arrAt 5 cfg0.N _
    congr 1
    funext a
    apply Fin.ext
    match a with
    | ⟨0, _⟩ => show _ = win0_5.index t 0 * 384 + 1 * r.val; rw [hi]; show _ = (t.val / 44 * 11 + t.val % 11) * 384 + 1 * r.val; rw [one_mul]; rfl
    | ⟨1, _⟩ => show _ = win0_5.index t 1 * 1024 + 1 * n.val; rw [hi]; show _ = (t.val / 11 % 4) * 1024 + 1 * n.val; rw [one_mul]; rfl
  · rfl

end Cert.Proof.Points
-- ==== Proof.Host.lean ====
module

public import proofs.«01_k».proof.Proof.Gen.KernelIdeal.Frame
public import proofs.«01_k».proof.Proof.Step
public import Idealize.ShloMosaic.Lib.StableHlo.ReadAt
public import Idealize.ShloMosaic.Lib.Claim

@[expose] public section

/-! The arrays the launch is called with, at an index, from the arguments. -/

open Idealize.ShloMosaic Idealize.ShloMosaic.TcCoe Idealize.ShloMosaic.Tactic Idealize.SL.Sem
open Cert.KernelIdeal Cert.KernelIdeal.Gen

namespace Cert.Proof.Host

variable (m : (ℓ : Loc nD τ sig) → Buf (Elt Ideal) ℓ) (c : Dev nD)

/-- The arguments. -/
noncomputable abbrev argQ : FVec Ideal S2x4112x16x128 .f32 := m ((c : Thread nD τ).loc main_arg0)
noncomputable abbrev argK : FVec Ideal S2x4112x16x128 .f32 := m ((c : Thread nD τ).loc main_arg1)
noncomputable abbrev argV : FVec Ideal S2x4112x16x128 .f32 := m ((c : Thread nD τ).loc main_arg2)
noncomputable abbrev argC : FVec Ideal S2x4112x16 .f32 := m ((c : Thread nD τ).loc main_arg3)
noncomputable abbrev argW : FVec Ideal S16x128x256 .f32 := m ((c : Thread nD τ).loc main_arg4)

/-- A row of padded projections: row `p` of sequence `b`, head `h`, component `d`. -/
noncomputable def padded (X : FVec Ideal S2x4112x16x128 .f32) (b : Fin 2) (p : ℕ) (h : Fin 16) (d : Fin 128) : EReal :=
  if hp : 112 ≤ p ∧ p < 4224 then X (ix4 b ⟨p - 112, by omega⟩ h d) else 0

/-- A padded cumulated decay, in units of `log 2`. -/
noncomputable def decay (C : FVec Ideal S2x4112x16 .f32) (b : Fin 2) (p : ℕ) (h : Fin 16) : EReal :=
  if hp : 112 ≤ p ∧ p < 4224 then Ideal.div (C (ix3 b ⟨p - 112, by omega⟩ h)) (Ideal.log (Ideal.ofBits .f32 0x40000000#32))
  else Ideal.ofBits .f32 0x7F800000#32

theorem padded_intro (X : FVec Ideal S2x4112x16x128 .f32) (b : Fin 2) (p : ℕ) (h : Fin 16) (d : Fin 128)
    {P : Prop} [Decidable P] {f : P → EReal} {z : EReal} (hP : P ↔ 112 ≤ p ∧ p < 4224)
    (hf : ∀ (hp : 112 ≤ p ∧ p < 4224) (k : P), f k = X (ix4 b ⟨p - 112, by omega⟩ h d)) (hz : z = 0) :
    (if k : P then f k else z) = padded X b p h d := by
  unfold padded
  by_cases k : P
  · rw [dif_pos k, dif_pos (hP.mp k)]
    exact hf (hP.mp k) k
  · rw [dif_neg k, dif_neg (fun q => k (hP.mpr q))]
    exact hz

theorem ix4_congr (b b' : Fin 2) (p p' : Fin 4112) (h h' : Fin 16) (d d' : Fin 128)
    (e1 : b.val = b'.val) (e2 : p.val = p'.val) (e3 : h.val = h'.val) (e4 : d.val = d'.val)
    (X : FVec Ideal S2x4112x16x128 .f32) : X (ix4 b p h d) = X (ix4 b' p' h' d') := by
  rw [Fin.ext e1, Fin.ext e2, Fin.ext e3, Fin.ext e4]

theorem zero_word : (FloatOps.sitofp .f32 (0#32 : BitVec 32) : Ideal .f32) = (0 : EReal) := by
  show (((0#32 : BitVec 32).toInt : ℝ) : EReal) = 0
  simp

/-- A row of one array of projections behind its padding. -/
noncomputable def row (X : FVec Ideal S2x4112x16x128 .f32) (R : Fin 8448) (n : Fin 2048) : EReal :=
  if k : R.val / 4224 < 2 ∧ (112 ≤ R.val % 4224 ∧ R.val % 4224 - 112 < 4112) then
    X (ix4 ⟨R.val / 4224, k.1⟩ ⟨R.val % 4224 - 112, k.2.2⟩ ⟨n.val / 128, by omega⟩
      ⟨n.val % 128, Nat.mod_lt _ (by norm_num)⟩)
  else FloatOps.sitofp (F := Ideal) .f32 (0#32 : BitVec 32)

theorem row_eq (X : FVec Ideal S2x4112x16x128 .f32) (b : Fin 2) (p : Fin 4224) (h : Fin 16) (d : Fin 128)
    (R : Fin 8448) (n : Fin 2048) (hR : R.val = b.val * 4224 + p.val) (hn : n.val = h.val * 128 + d.val) :
    row X R n = padded X b p h d := by
  unfold row
  refine padded_intro X b p h d ?_ (fun hp k => ix4_congr _ _ _ _ _ _ _ _ ?_ ?_ ?_ ?_ X) zero_word
  · constructor <;> intro k <;> omega
  · show R.val / 4224 = b.val; omega
  · show R.val % 4224 - 112 = p.val - 112; omega
  · show n.val / 128 = h.val; omega
  · show n.val % 128 = d.val; omega

theorem queries_raw (R : Fin 8448) (N : Fin 6144) (hn : N.val < 2048) :
    (V m c main_v9 : FVec Ideal S8448x6144 .f32) (ix2 R N) = row (argQ m c) R ⟨N.val, hn⟩ := by
  unfold V
  after_reads_at
  rw [dif_pos hn]
  generalize (⟨N.val, hn⟩ : Fin 2048) = n
  clear hn
  refine Eq.trans (congrFun (StableHlo.reshape_result _ _ _ _ _ _ _) _) ?_
  after_reads_at
  rfl

/-- The queries in the packed array. -/
theorem queries (b : Fin 2) (p : Fin 4224) (h : Fin 16) (d : Fin 128) (R : Fin 8448) (N : Fin 6144)
    (hR : R.val = b.val * 4224 + p.val) (hN : N.val = 0 + h.val * 128 + d.val) :
    (V m c main_v9 : FVec Ideal S8448x6144 .f32) (ix2 R N) = padded (argQ m c) b p h d := by
  rw [queries_raw m c R N  (by omega)]
  exact row_eq _ b p h d R _ hR (by show N.val = _; omega)

theorem keys_raw (R : Fin 8448) (N : Fin 6144) (n0 : ¬ N.val < 2048) (hn : N.val - 2048 < 2048) :
    (V m c main_v9 : FVec Ideal S8448x6144 .f32) (ix2 R N) = row (argK m c) R ⟨N.val - 2048, hn⟩ := by
  unfold V
  after_reads_at
  rw [dif_neg n0]
  rw [dif_pos hn]
  generalize (⟨N.val - 2048, hn⟩ : Fin 2048) = n
  clear hn n0
  refine Eq.trans (congrFun (StableHlo.reshape_result _ _ _ _ _ _ _) _) ?_
  after_reads_at
  rfl

/-- The keys in the packed array. -/
theorem keys (b : Fin 2) (p : Fin 4224) (h : Fin 16) (d : Fin 128) (R : Fin 8448) (N : Fin 6144)
    (hR : R.val = b.val * 4224 + p.val) (hN : N.val = 2048 + h.val * 128 + d.val) :
    (V m c main_v9 : FVec Ideal S8448x6144 .f32) (ix2 R N) = padded (argK m c) b p h d := by
  rw [keys_raw m c R N (by omega) (by omega)]
  exact row_eq _ b p h d R _ hR (by show N.val - 2048 = _; omega)

theorem values_raw (R : Fin 8448) (N : Fin 6144) (n0 : ¬ N.val < 2048) (n1 : ¬ N.val - 2048 < 2048) (hn : N.val - 2048 - 2048 < 2048) :
    (V m c main_v9 : FVec Ideal S8448x6144 .f32) (ix2 R N) = row (argV m c) R ⟨N.val - 2048 - 2048, hn⟩ := by
  unfold V
  after_reads_at
  rw [dif_neg n0]
  rw [dif_neg n1]
  generalize (⟨N.val - 2048 - 2048, hn⟩ : Fin 2048) = n
  clear hn n0 n1
  refine Eq.trans (congrFun (StableHlo.reshape_result _ _ _ _ _ _ _) _) ?_
  after_reads_at
  rfl

/-- The values in the packed array. -/
theorem values (b : Fin 2) (p : Fin 4224) (h : Fin 16) (d : Fin 128) (R : Fin 8448) (N : Fin 6144)
    (hR : R.val = b.val * 4224 + p.val) (hN : N.val = 4096 + h.val * 128 + d.val) :
    (V m c main_v9 : FVec Ideal S8448x6144 .f32) (ix2 R N) = padded (argV m c) b p h d := by
  rw [values_raw m c R N (by omega) (by omega) (by omega)]
  exact row_eq _ b p h d R _ hR (by show N.val - 2048 - 2048 = _; omega)

theorem decays_raw (h : Fin 16) (J : Fin 22) (x : Fin 384) :
    (V m c main_v17 : FVec Ideal S16x22x1x384 .f32) (ix4 h J 0 x)
      = if k : (J.val * 384 + x.val) / 4224 < 2 ∧ 112 ≤ (J.val * 384 + x.val) % 4224 ∧ (J.val * 384 + x.val) % 4224 - 112 < 4112 then
          Ideal.div (argC m c (ix3 ⟨(J.val * 384 + x.val) / 4224, k.1⟩ ⟨(J.val * 384 + x.val) % 4224 - 112, k.2.2⟩ h))
            (Ideal.log (Ideal.ofBits .f32 0x40000000#32))
        else Ideal.ofBits .f32 0x7F800000#32 := by
  unfold V
  after_reads_at
  first | done | rfl

/-- The cumulated decays as the launch takes them. -/
theorem decays (b : Fin 2) (p : Fin 4224) (h : Fin 16) (J : Fin 22) (x : Fin 384)
    (hJ : J.val * 384 + x.val = b.val * 4224 + p.val) :
    (V m c main_v17 : FVec Ideal S16x22x1x384 .f32) (ix4 h J 0 x) = decay (argC m c) b p h := by
  rw [decays_raw]
  unfold decay
  by_cases hp : 112 ≤ p.val
  · have k : (J.val * 384 + x.val) / 4224 < 2 ∧ 112 ≤ (J.val * 384 + x.val) % 4224 ∧ (J.val * 384 + x.val) % 4224 - 112 < 4112 := by
      omega
    have k' : 112 ≤ p.val ∧ p.val < 4224 := by omega
    rw [dif_pos k, dif_pos k']
    have e1 : (⟨(J.val * 384 + x.val) / 4224, k.1⟩ : Fin 2) = b := Fin.ext (by show (J.val * 384 + x.val) / 4224 = b.val; omega)
    have e2 : (⟨(J.val * 384 + x.val) % 4224 - 112, k.2.2⟩ : Fin 4112) = ⟨p.val - 112, by omega⟩ :=
      Fin.ext (by show (J.val * 384 + x.val) % 4224 - 112 = p.val - 112; omega)
    rw [e1, e2]
  · have k : ¬ ((J.val * 384 + x.val) / 4224 < 2 ∧ 112 ≤ (J.val * 384 + x.val) % 4224 ∧ (J.val * 384 + x.val) % 4224 - 112 < 4112) := by
      omega
    have k' : ¬ (112 ≤ p.val ∧ p.val < 4224) := by omega
    rw [dif_neg k, dif_neg k']

/-- The head maps as the launch takes them. -/
theorem maps (h : Fin 16) (d : Fin 128) (e : Fin 256) :
    (V m c main_v16 : FVec Ideal S16x128x256 .bf16) (ix3 h d e) = argW m c (ix3 h d e) := by
  unfold V
  after_reads_at

end Cert.Proof.Host
-- ==== Proof.Online.lean ====
module

public import Idealize.ShloMosaic.PureOps.Ideal

@[expose] public section

/-! Softmax weights kept under a running maximum: the mathematics, on extended reals. -/

open Idealize.ShloMosaic

namespace Cert.Proof.Online

/-- A nonnegative real may be multiplied into a finite sum of extended reals. -/
theorem mul_sum_coe {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

theorem exp2_real (r : ℝ) : Ideal.exp2 (r : EReal) = ((Real.exp (r * Real.log 2) : ℝ) : EReal) := by
  rw [Ideal.exp2_coe]
  congr 1
  rw [mul_comm]
  exact Real.rpow_def_of_pos (by norm_num) r

/-- A weight under a maximum is a nonnegative real. -/
theorem weight_real (t M : EReal) (h : t ≤ M) (hM : M ≠ ⊤) : ∃ w : ℝ, 0 ≤ w ∧ Ideal.exp2 (t - M) = (w : EReal) := by
  induction M with
  | top => exact absurd rfl hM
  | bot =>
    have : t = ⊥ := le_bot_iff.mp h
    subst this
    exact ⟨0, le_refl _, by simp⟩
  | coe M =>
    induction t with
    | top => exact absurd (top_le_iff.mp h) (EReal.coe_ne_top M)
    | bot => exact ⟨0, le_refl _, by simp⟩
    | coe t =>
      refine ⟨Real.exp ((t - M) * Real.log 2), (Real.exp_pos _).le, ?_⟩
      rw [← EReal.coe_sub, exp2_real]

/-- Weights under one maximum, rescaled, are weights under the next. -/
theorem rescale (t M M' : EReal) (h : t ≤ M) (h' : M ≤ M') (hM : M' ≠ ⊤) :
    Ideal.exp2 (M - M') * Ideal.exp2 (t - M) = Ideal.exp2 (t - M') := by
  induction M' with
  | top => exact absurd rfl hM
  | bot =>
    have e : M = ⊥ := le_bot_iff.mp h'
    subst e
    have e : t = ⊥ := le_bot_iff.mp h
    subst e
    simp
  | coe M' =>
    induction M with
    | top => exact absurd (top_le_iff.mp h') (EReal.coe_ne_top M')
    | bot =>
      have e : t = ⊥ := le_bot_iff.mp h
      subst e
      simp
    | coe M =>
      induction t with
      | top => exact absurd (top_le_iff.mp h) (EReal.coe_ne_top M)
      | bot => simp
      | coe t =>
        rw [← EReal.coe_sub, ← EReal.coe_sub, ← EReal.coe_sub, exp2_real, exp2_real, exp2_real, ← EReal.coe_mul,
          ← Real.exp_add]
        congr 2
        ring

/-- The sums after one more block of 384 columns. -/
theorem step (n : ℕ) (t f : ℕ → EReal) (M M' : EReal) (h : ∀ c < 384 * n, t c ≤ M) (h' : M ≤ M') (hM : M' ≠ ⊤) :
    Ideal.exp2 (M - M') * (∑ c ∈ Finset.range (384 * n), Ideal.exp2 (t c - M) * f c)
        + ∑ x : Fin 384, Ideal.exp2 (t (384 * n + x) - M') * f (384 * n + x)
      = ∑ c ∈ Finset.range (384 * (n + 1)), Ideal.exp2 (t c - M') * f c := by
  obtain ⟨w, hw, e⟩ := weight_real M M' h' hM
  rw [show 384 * (n + 1) = 384 * n + 384 by ring, Finset.sum_range_add, e, mul_sum_coe _ _ hw,
    ← Finset.sum_range (fun x => Ideal.exp2 (t (384 * n + x) - M') * f (384 * n + x))]
  congr 1
  refine Finset.sum_congr rfl fun c hc => ?_
  rw [← e, ← mul_assoc, rescale _ _ _ (h c (Finset.mem_range.mp hc)) h' hM]

/-- A maximum over a finite family. -/
theorem le_fold {ι : Type*} (s : Finset ι) (f : ι → EReal) (b : EReal) : ∀ i ∈ s, f i ≤ s.fold max b f :=
  fun i hi => (Finset.le_fold_max (f i)).mpr (Or.inr ⟨i, hi, le_refl _⟩)

theorem fold_ne_top {ι : Type*} (s : Finset ι) (f : ι → EReal) (h : ∀ i ∈ s, f i ≠ ⊤) : s.fold max ⊥ f ≠ ⊤ := by
  have := (Finset.fold_max_lt (s := s) (f := f) (b := (⊥ : EReal)) (c := ⊤)).mpr
    ⟨bot_lt_top, fun i hi => lt_top_iff_ne_top.mpr (h i hi)⟩
  exact this.ne

/-- A quotient of two sums with a common positive factor is the sum of the quotients. -/
theorem quotient {n : ℕ} (E : Fin n → ℝ) (v : Fin n → EReal) (a : ℝ) (ha : 0 < a) (hE : ∀ j, 0 ≤ E j)
    (hL : 0 < ∑ j, E j) :
    Ideal.div (∑ j, ((a * E j : ℝ) : EReal) * v j) (∑ j, ((a * E j : ℝ) : EReal))
      = ∑ j, Ideal.div ((E j : ℝ) : EReal) (∑ j, ((E j : ℝ) : EReal)) * v j := by
  have coe_sum : ∀ f : Fin n → ℝ, (∑ j, ((f j : ℝ) : EReal)) = ((∑ j, f j : ℝ) : EReal) := fun f => by
    induction (Finset.univ : Finset (Fin n)) using Finset.induction_on with
    | empty => simp
    | insert i s hi ih => rw [Finset.sum_insert hi, Finset.sum_insert hi, ih, EReal.coe_add]
  rw [coe_sum, coe_sum, ← Finset.mul_sum, Ideal.div_coe (mul_pos ha hL).ne', mul_comm,
    mul_sum_coe _ _ (one_div_nonneg.mpr (mul_pos ha hL).le)]
  refine Finset.sum_congr rfl fun j _ => ?_
  rw [Ideal.div_coe hL.ne', ← mul_assoc, ← EReal.coe_mul, ← EReal.coe_mul]
  congr 2
  have := hL.ne'
  field_simp

end Cert.Proof.Online
-- ==== Proof.Row.lean ====
module

public import proofs.«01_k».proof.Proof.Step
public import proofs.«01_k».proof.Proof.Online

@[expose] public section

/-! One query row of one head across its key blocks: after `n` blocks the state holds a bound on the
logits of the first `384 n` columns, the sum of their weights and the weighted sum of their values. -/

open Idealize.ShloMosaic
open Cert.KernelIdeal

namespace Cert.Proof.Row

/-- The state of row `r` after `n` blocks, from the row's logits `t` and the values `f`. -/
def Inv (r : Fin 384) (t : ℕ → EReal) (f : ℕ → Fin 128 → EReal) (n : ℕ) (s : Step.St) : Prop :=
  (∀ c < 384 * n, t c ≤ s.1 (ix2 r 0)) ∧ s.1 (ix2 r 0) ≠ (⊤ : EReal) ∧
  s.2.1 (ix2 r 0) = ∑ c ∈ Finset.range (384 * n), Ideal.exp2 (t c - s.1 (ix2 r 0)) ∧
  ∀ d, s.2.2 (ix2 r d) = ∑ c ∈ Finset.range (384 * n), Ideal.exp2 (t c - s.1 (ix2 r 0)) * f c d

theorem init (r : Fin 384) (t : ℕ → EReal) (f : ℕ → Fin 128 → EReal) :
    Inv r t f 0 (Gen.k0_pay51, Gen.k0_pay52, Gen.k0_pay53) := by
  have z : Ideal.ofBits .f32 0x00000000#32 = 0 := by simp [Ideal.ofBits, Ideal.ieee]
  refine ⟨fun c hc => absurd hc (by omega), ?_, ?_, fun d => ?_⟩
  · show Ideal.ofBits .f32 0xFF800000#32 ≠ (⊤ : EReal)
    rw [Step.negInf]
    exact bot_ne_top
  · show Ideal.ofBits .f32 0x00000000#32 = _
    rw [z]
    simp
  · show Ideal.ofBits .f32 0x00000000#32 = _
    rw [z]
    simp

theorem next (r : Fin 384) (t : ℕ → EReal) (f : ℕ → Fin 128 → EReal) (n : ℕ) (s : Step.St)
    (T : FVec Ideal S384x384 .f32) (v : FVec Ideal S384x128 .bf16)
    (ht : ∀ c, t c ≠ ⊤) (hT : ∀ x : Fin 384, T (ix2 r x) = t (384 * n + x.val))
    (hv : ∀ (x : Fin 384) (d : Fin 128), v (ix2 x d) = f (384 * n + x.val) d)
    (h : Inv r t f n s) : Inv r t f (n + 1) (Step.upd T v s) := by
  obtain ⟨hb, hne, hl, ha⟩ := h
  have em : (Step.upd T v s).1 = Step.newMax T s.1 := rfl
  have e : Step.newMax T s.1 (ix2 r 0)
      = max (s.1 (ix2 r 0) : EReal) (Finset.univ.fold max ⊥ fun x : Fin 384 => t (384 * n + x.val)) := by
    rw [Step.newMax_apply]
    simp only [hT]
  have h1 : (s.1 (ix2 r 0) : EReal) ≤ Step.newMax T s.1 (ix2 r 0) := by rw [e]; exact le_max_left _ _
  have h2 : Step.newMax T s.1 (ix2 r 0) ≠ (⊤ : EReal) := by
    rw [e]
    rcases max_choice (s.1 (ix2 r 0) : EReal) (Finset.univ.fold max ⊥ fun x : Fin 384 => t (384 * n + x.val)) with q | q
    · rw [q]; exact hne
    · rw [q]; exact Online.fold_ne_top _ _ fun x _ => ht _
  refine ⟨fun c hc => ?_, ?_, ?_, fun d => ?_⟩
  · rw [em]
    by_cases k : c < 384 * n
    · exact (hb c k).trans h1
    · rw [e]
      refine le_trans ?_ (le_max_right _ _)
      have q := Online.le_fold Finset.univ (fun x : Fin 384 => t (384 * n + x.val)) ⊥ ⟨c - 384 * n, by omega⟩
        (Finset.mem_univ _)
      have : 384 * n + (c - 384 * n) = c := by omega
      simpa only [this] using q
  · rw [em]; exact h2
  · rw [em, Step.upd_sum, hl]
    have q := Online.step n t (fun _ => 1) _ _ hb h1 h2
    simp only [mul_one] at q
    rw [← q]
    simp only [Step.weights_apply, hT]
  · rw [em, Step.upd_acc, ha]
    have q := Online.step n t (fun c => f c d) _ _ hb h1 h2
    rw [← q]
    simp only [Step.weights_apply, hT, hv]

end Cert.Proof.Row
-- ==== Proof.Attend.lean ====
module

public import proofs.«01_k».proof.Proof.Points
public import proofs.«01_k».proof.Proof.Host
public import proofs.«01_k».proof.Proof.Row

@[expose] public section

/-! The launch's result at a token's row, from the padded arguments. -/

open Idealize.ShloMosaic Idealize.ShloMosaic.TcCoe Idealize.ShloMosaic.Tactic Idealize.SL.Sem
open Cert.KernelIdeal Cert.KernelIdeal.Gen

namespace Cert.Proof.Attend

variable (m : (ℓ : Loc nD τ sig) → Buf (Elt Ideal) ℓ) (c : Dev nD)

/-- The launch's result. -/
noncomputable def out : FVec Ideal S8448x4096 .f32 := (dats m 0 c).arrAt 5 cfg0.N

/-- The logit (to base two) of padded row `p` against padded row `n`. -/
noncomputable def logit (Q K : FVec Ideal S2x4112x16x128 .f32) (C : FVec Ideal S2x4112x16 .f32) (b : Fin 2) (h : Fin 16)
    (p n : ℕ) : EReal :=
  (∑ d, Host.padded Q b p h d * Host.padded K b n h d) * (((Real.sqrt 128)⁻¹ * (Real.log 2)⁻¹ : ℝ) : EReal)
    - Host.decay C b n h

/-- The same under the causal mask. -/
noncomputable def causal (Q K : FVec Ideal S2x4112x16x128 .f32) (C : FVec Ideal S2x4112x16 .f32) (b : Fin 2) (h : Fin 16)
    (p n : ℕ) : EReal :=
  if n ≤ p then logit Q K C b h p n else ⊥

theorem quotient (l : FVec Ideal S384x1 .f32) (a : FVec Ideal S384x128 .f32) (w : FVec Ideal S1x128x256 .bf16)
    (r : Fin 384) (e : Fin 256) :
    k0_pay93 l a w (ix2 r e) = ∑ d, Ideal.div (a (ix2 r d)) (l (ix2 r 0)) * w (ix3 0 d e) := by
  unfold k0_pay93
  pointwise

theorem block (i : grid0.Coords) (Q : FVec Ideal S384x512 .f32) (K V : FVec Ideal S4224x512 .bf16)
    (C : FVec Ideal S4x11x1x384 .f32) (W : FVec Ideal S4x128x256 .bf16) (r : Fin 384) (hl : Fin 4) (e : Fin 256)
    (hn : hl.val * 256 + e.val < 1024) :
    Body.blockOut i Q K V C W (ix2 r ⟨hl.val * 256 + e.val, hn⟩) = Body.headOut i Q K V C W hl (ix2 r e) := by
  unfold Body.blockOut
  have f1 : (⟨(hl.val * 256 + e.val) / 256, by omega⟩ : Fin 4) = hl := Fin.ext (by show (hl.val * 256 + e.val) / 256 = hl.val; omega)
  have f2 : (⟨(hl.val * 256 + e.val) % 256, by omega⟩ : Fin 256) = e := Fin.ext (by show (hl.val * 256 + e.val) % 256 = e.val; omega)
  show Body.headOut i Q K V C W ⟨(hl.val * 256 + e.val) / 256, _⟩ (ix2 r ⟨(hl.val * 256 + e.val) % 256, _⟩) = _
  rw [f1, f2]

section Point

variable (t : Fin cfg0.N) (b : Fin 2) (hg : Fin 4) (hl : Fin 4) (h : Fin 16) (iq : Fin 11) (ht : t.val = b.val * 44 + hg.val * 11 + iq.val)
  (hh : h.val = hg.val * 4 + hl.val)
include ht hh

theorem query (r : Fin 384) (d : Fin 128) (p : ℕ) (hp : p = iq.val * 384 + r.val) :
    Body.qblk (iblk m c 0 t) hl (ix2 r d) = Host.padded (Host.argQ m c) b p h d := by
  have hr := r.isLt
  have hi := iq.isLt
  refine (Points.iblk0 m c t r ⟨128 * hl.val + d.val, by omega⟩).trans ?_
  subst hp
  refine Host.queries m c b ⟨iq.val * 384 + r.val, by omega⟩ h d _ _ ?_ ?_
  · show (t.val / 44 * 11 + t.val % 11) * 384 + r.val = b.val * 4224 + (iq.val * 384 + r.val)
    omega
  · show t.val / 11 % 4 * 512 + (128 * hl.val + d.val) = 0 + h.val * 128 + d.val
    omega

theorem key (j : ℕ) (hj : j < 11) (x : Fin 384) (d : Fin 128) :
    Body.kblk (iblk m c 1 t) hl j (ix2 x d) = Host.padded (Host.argK m c) b (384 * j + x.val) h d := by
  have hx := x.isLt
  refine (Points.iblk1 m c t ⟨(384 * j + x.val) % 4224, Nat.mod_lt _ (by norm_num)⟩ ⟨128 * hl.val + d.val, by omega⟩).trans ?_
  refine Host.keys m c b ⟨384 * j + x.val, by omega⟩ h d _ _ ?_ ?_
  · show t.val / 44 * 4224 + (384 * j + x.val) % 4224 = b.val * 4224 + (384 * j + x.val)
    omega
  · show (4 + t.val / 11 % 4) * 512 + (128 * hl.val + d.val) = 2048 + h.val * 128 + d.val
    omega

theorem value (j : ℕ) (hj : j < 11) (x : Fin 384) (d : Fin 128) :
    Body.kblk (iblk m c 2 t) hl j (ix2 x d) = Host.padded (Host.argV m c) b (384 * j + x.val) h d := by
  have hx := x.isLt
  refine (Points.iblk2 m c t ⟨(384 * j + x.val) % 4224, Nat.mod_lt _ (by norm_num)⟩ ⟨128 * hl.val + d.val, by omega⟩).trans ?_
  refine Host.values m c b ⟨384 * j + x.val, by omega⟩ h d _ _ ?_ ?_
  · show t.val / 44 * 4224 + (384 * j + x.val) % 4224 = b.val * 4224 + (384 * j + x.val)
    omega
  · show (8 + t.val / 11 % 4) * 512 + (128 * hl.val + d.val) = 4096 + h.val * 128 + d.val
    omega

theorem gate (j : ℕ) (hj : j < 11) (x : Fin 384) :
    Body.cblk (iblk m c 3 t) hl j (ix4 0 0 0 x) = Host.decay (Host.argC m c) b (384 * j + x.val) h := by
  have hx := x.isLt
  refine (Points.iblk3 m c t hl ⟨j % 11, Nat.mod_lt _ (by norm_num)⟩ x).trans ?_
  have e : (⟨t.val / 11 % 4 * 4 + hl.val, by omega⟩ : Fin 16) = h := Fin.ext (by show t.val / 11 % 4 * 4 + hl.val = h.val; omega)
  rw [e]
  refine Host.decays m c b ⟨384 * j + x.val, by omega⟩ h _ x ?_
  show (t.val / 44 * 11 + j % 11) * 384 + x.val = b.val * 4224 + (384 * j + x.val)
  omega

theorem map (d : Fin 128) (e : Fin 256) : Body.wblk (iblk m c 4 t) hl (ix3 0 d e) = Host.argW m c (ix3 h d e) := by
  refine (Points.iblk4 m c t hl d e).trans ?_
  have e' : (⟨t.val / 11 % 4 * 4 + hl.val, by omega⟩ : Fin 16) = h := Fin.ext (by show t.val / 11 % 4 * 4 + hl.val = h.val; omega)
  rw [e']
  exact Host.maps m c h d e

theorem logits (r : Fin 384) (p : ℕ) (hp : p = iq.val * 384 + r.val) (j : ℕ) (hj : j < 11) (x : Fin 384) :
    Body.logits (iblk m c 0 t) (iblk m c 1 t) (iblk m c 3 t) hl j (ix2 r x)
      = logit (Host.argQ m c) (Host.argK m c) (Host.argC m c) b h p (384 * j + x.val) := by
  unfold Body.logits logit
  rw [Step.tile_apply, gate m c t b hg hl h iq ht hh j hj x]
  simp only [query m c t b hg hl h iq ht hh r _ p hp, key m c t b hg hl h iq ht hh j hj x]

/-- A row's state after its diagonal block. -/
theorem last (r : Fin 384) (p : ℕ) (hp : p = iq.val * 384 + r.val)
    (hne : ∀ n, causal (Host.argQ m c) (Host.argK m c) (Host.argC m c) b h p n ≠ ⊤) :
    Row.Inv r (causal (Host.argQ m c) (Host.argK m c) (Host.argC m c) b h p)
      (fun n d => Host.padded (Host.argV m c) b n h d) (iq.val + 1)
      (Body.last (grid0.coords t) (iblk m c 0 t) (iblk m c 1 t) (iblk m c 2 t) (iblk m c 3 t) hl) := by
  have hi := iq.isLt
  have ei : (grid0.coords t 2).val = iq.val := by
    rw [(Points.index t).2.2.2.2.2.2]
    omega
  have before : ∀ n ≤ iq.val, Row.Inv r (causal (Host.argQ m c) (Host.argK m c) (Host.argC m c) b h p)
      (fun n d => Host.padded (Host.argV m c) b n h d) n
      (Body.fold (iblk m c 0 t) (iblk m c 1 t) (iblk m c 2 t) (iblk m c 3 t) hl n) := by
    intro n
    induction n with
    | zero => exact fun _ => Row.init _ _ _
    | succ n ih =>
      intro hn
      refine Row.next r _ _ n _ _ _ hne (fun x => ?_) (fun x d => ?_) (ih (by omega))
      · have hx := x.isLt
        rw [logits m c t b hg hl h iq ht hh r p hp n (by omega) x]
        unfold causal
        rw [if_pos (by omega)]
      · exact value m c t b hg hl h iq ht hh n (by omega) x d
  unfold Body.last
  rw [ei]
  refine Row.next r _ _ _ _ _ _ hne (fun x => ?_) (fun x d => ?_) (before iq.val (le_refl _))
  · rw [Step.masked_apply, logits m c t b hg hl h iq ht hh r p hp iq.val hi x]
    unfold causal
    have : (x ≤ r) ↔ (384 * iq.val + x.val ≤ p) := by
      rw [Fin.le_def]
      omega
    simp only [this]
  · exact value m c t b hg hl h iq ht hh iq.val hi x d

/-- The result at an index of the point's block. -/
theorem at_point (r : Fin 384) (e : Fin 256) (R : Fin 8448) (N : Fin 4096)
    (hR : R.val = b.val * 4224 + iq.val * 384 + r.val) (hN : N.val = h.val * 256 + e.val) :
    out m c (ix2 R N)
      = ∑ d, Ideal.div
          ((Body.last (grid0.coords t) (iblk m c 0 t) (iblk m c 1 t) (iblk m c 2 t) (iblk m c 3 t) hl).2.2 (ix2 r d))
          ((Body.last (grid0.coords t) (iblk m c 0 t) (iblk m c 1 t) (iblk m c 2 t) (iblk m c 3 t) hl).2.1 (ix2 r 0))
        * Host.argW m c (ix3 h d e) := by
  have b0 := Points.lt t
  have b1 : (t.val / 44 * 11 + t.val % 11) * 384 + r.val < 8448 := by
    have := r.isLt
    clear hR hN ht
    omega
  have b2 : t.val / 11 % 4 * 1024 + (hl.val * 256 + e.val) < 4096 := by
    have := hl.isLt
    have := e.isLt
    clear hR hN ht
    omega
  have eR : R = ⟨(t.val / 44 * 11 + t.val % 11) * 384 + r.val, b1⟩ :=
    Fin.ext (by show R.val = (t.val / 44 * 11 + t.val % 11) * 384 + r.val; omega)
  have eN : N = ⟨t.val / 11 % 4 * 1024 + (hl.val * 256 + e.val), b2⟩ :=
    Fin.ext (by show N.val = t.val / 11 % 4 * 1024 + (hl.val * 256 + e.val); omega)
  rw [eR, eN]
  have b3 : hl.val * 256 + e.val < 1024 := by omega
  have q : out m c (ix2 ⟨(t.val / 44 * 11 + t.val % 11) * 384 + r.val, b1⟩ ⟨t.val / 11 % 4 * 1024 + (hl.val * 256 + e.val), b2⟩)
      = Body.blockOut (grid0.coords t) (iblk m c 0 t) (iblk m c 1 t) (iblk m c 2 t) (iblk m c 3 t) (iblk m c 4 t)
          (ix2 r ⟨hl.val * 256 + e.val, b3⟩) := Points.result m c t r ⟨hl.val * 256 + e.val, b3⟩
  rw [q, block]
  unfold Body.headOut
  rw [quotient]
  exact Finset.sum_congr rfl fun d _ => congrArg _ (map m c t b hg hl h iq ht hh d e)

end Point

/-- The result at a row: the quotients of the row's sums under some bound of its logits, through the head's map. -/
theorem result (b : Fin 2) (h : Fin 16) (e : Fin 256) (p : ℕ) (hp : p < 4224) (R : Fin 8448) (N : Fin 4096)
    (hR : R.val = b.val * 4224 + p) (hN : N.val = h.val * 256 + e.val)
    (hne : ∀ n, causal (Host.argQ m c) (Host.argK m c) (Host.argC m c) b h p n ≠ ⊤) :
    ∃ (M : EReal) (n : ℕ), p < n ∧ n ≤ 4224 ∧ M ≠ ⊤ ∧
      (∀ k < n, causal (Host.argQ m c) (Host.argK m c) (Host.argC m c) b h p k ≤ M) ∧
      out m c (ix2 R N)
        = ∑ d, Ideal.div
            (∑ k ∈ Finset.range n, Ideal.exp2 (causal (Host.argQ m c) (Host.argK m c) (Host.argC m c) b h p k - M)
              * Host.padded (Host.argV m c) b k h d)
            (∑ k ∈ Finset.range n, Ideal.exp2 (causal (Host.argQ m c) (Host.argK m c) (Host.argC m c) b h p k - M))
          * Host.argW m c (ix3 h d e) := by
  have hb := b.isLt
  have hh := h.isLt
  obtain ⟨hg, e1⟩ : ∃ hg : Fin 4, hg.val = h.val / 4 := ⟨⟨h.val / 4, by omega⟩, rfl⟩
  obtain ⟨hl, e2⟩ : ∃ hl : Fin 4, hl.val = h.val % 4 := ⟨⟨h.val % 4, by omega⟩, rfl⟩
  obtain ⟨iq, e3⟩ : ∃ iq : Fin 11, iq.val = p / 384 := ⟨⟨p / 384, by omega⟩, rfl⟩
  obtain ⟨r, e4⟩ : ∃ r : Fin 384, r.val = p % 384 := ⟨⟨p % 384, by omega⟩, rfl⟩
  obtain ⟨t, e5⟩ : ∃ t : Fin cfg0.N, t.val = b.val * 44 + hg.val * 11 + iq.val :=
    ⟨⟨b.val * 44 + hg.val * 11 + iq.val, lt_of_lt_of_eq (b := 88) (by omega) N_0.symm⟩, rfl⟩
  have e6 : h.val = hg.val * 4 + hl.val := by omega
  have e7 : p = iq.val * 384 + r.val := by
    rw [e3, e4, Nat.mul_comm]
    exact (Nat.div_add_mod p 384).symm
  have e8 : R.val = b.val * 4224 + iq.val * 384 + r.val := by
    rw [hR, e7, Nat.add_assoc]
  have e9 : p < 384 * (iq.val + 1) := by
    have := r.isLt
    rw [e7]
    omega
  have e10 : 384 * (iq.val + 1) ≤ 4224 := by
    have := iq.isLt
    omega
  obtain ⟨k1, k2, k3, k4⟩ := last m c t b hg hl h iq e5 e6 r p e7 hne
  have q := at_point m c t b hg hl h iq e5 e6 r e R N e8 hN
  rw [k3] at q
  simp only [k4] at q
  exact ⟨_, 384 * (iq.val + 1), e9, e10, k2, k1, q⟩

end Cert.Proof.Attend
-- ==== Proof.Ref.lean ====
module

public import proofs.«01_k».proof.Proof.Gen.ReferenceIdeal.Run
public import Idealize.ShloMosaic.Lib.Pointwise
public import Idealize.ShloMosaic.Lib.Claim

@[expose] public section

/-! The reference's result at an index. -/

open Idealize.ShloMosaic Idealize.ShloMosaic.TcCoe Idealize.ShloMosaic.Tactic Idealize.SL.Sem
open Cert.ReferenceIdeal Cert.ReferenceIdeal.Gen

namespace Cert.Proof.Ref

/-- The causal logits. -/
noncomputable def logits (q k : FVec Ideal S2x4112x16x128 .f32) (c : FVec Ideal S2x4112x16 .f32) :
    FVec Ideal S2x16x4112x4112 .f32 :=
  select
    (broadcastInDim S2x16x4112x4112 ![2, 3] bcast_S4112x4112_S2x16x4112x4112_2_3
      (cmpi CmpIPredicate.sle
        (broadcastInDim S4112x4112 ![0, 1] bcast_S1x4112_S4112x4112_0_1
          (broadcastInDim S1x4112 ![1] bcast_S4112_S1x4112_1 (iotaInDim S4112 32 0)))
        (broadcastInDim S4112x4112 ![0, 1] bcast_S4112x1_S4112x4112_0_1
          (broadcastInDim S4112x1 ![0] bcast_S4112_S4112x1_0 (iotaInDim S4112 32 0)))))
    (subf
      (addf
        (Host.divf
          (Host.dotGeneral dot_S2x4112x16x128_S2x4112x16x128_S2x16x4112x4112_3_3_1_1_02_02 none q k)
          (broadcastInDim S2x16x4112x4112 ![] bcast_S_S2x16x4112x4112
            (Host.sqrt (constant S_ FTy.f32 1124073472#32))))
        (broadcastInDim S2x16x4112x4112 ![0, 1, 2, 3] bcast_S2x16x4112x1_S2x16x4112x4112_0_1_2_3
          (broadcastInDim S2x16x4112x1 ![0, 1, 2] bcast_S2x16x4112_S2x16x4112x1_0_1_2
            (transpose S2x16x4112 [0, 2, 1] c transposes_S2x4112x16_S2x16x4112_0_2_1))))
      (broadcastInDim S2x16x4112x4112 ![0, 1, 2, 3] bcast_S2x16x1x4112_S2x16x4112x4112_0_1_2_3
        (broadcastInDim S2x16x1x4112 ![0, 1, 3] bcast_S2x16x4112_S2x16x1x4112_0_1_3
          (transpose S2x16x4112 [0, 2, 1] c transposes_S2x4112x16_S2x16x4112_0_2_1))))
    (broadcastInDim S2x16x4112x4112 ![] bcast_S_S2x16x4112x4112
      (id (constant S_ FTy.f32 4286578688#32)))

/-- The row maxima. -/
noncomputable def top (x : FVec Ideal S2x16x4112x4112 .f32) : FVec Ideal S2x16x4112 .f32 :=
  maximumf (broadcastInDim S2x16x4112 ![] bcast_S_S2x16x4112 (constant S_ FTy.f32 4286578688#32))
    (Host.reduce FloatOps.maximumf x (constant S_ FTy.f32 4286578688#32)
      reducesTo_S2x16x4112x4112_S2x16x4112_d3 h_S_)

/-- The exponentials under the row maxima. -/
noncomputable def exps (x : FVec Ideal S2x16x4112x4112 .f32) (t : FVec Ideal S2x16x4112 .f32) :
    FVec Ideal S2x16x4112x4112 .f32 :=
  Host.exp (subf x (broadcastInDim S2x16x4112x4112 ![0, 1, 2, 3] bcast_S2x16x4112x1_S2x16x4112x4112_0_1_2_3
    (broadcastInDim S2x16x4112x1 ![0, 1, 2] bcast_S2x16x4112_S2x16x4112x1_0_1_2 t)))

/-- The rows divided by their sums. -/
noncomputable def probs (e : FVec Ideal S2x16x4112x4112 .f32) : FVec Ideal S2x16x4112x4112 .f32 :=
  Host.divf e (broadcastInDim S2x16x4112x4112 ![0, 1, 2, 3] bcast_S2x16x4112x1_S2x16x4112x4112_0_1_2_3
    (broadcastInDim S2x16x4112x1 ![0, 1, 2] bcast_S2x16x4112_S2x16x4112x1_0_1_2
      (Host.reduceAdd e (constant S_ FTy.f32 0#32) reducesTo_S2x16x4112x4112_S2x16x4112_d3 h_S_)))

/-- The weighted values. -/
noncomputable def mix (p : FVec Ideal S2x16x4112x4112 .f32) (v : FVec Ideal S2x4112x16x128 .f32) :
    FVec Ideal S2x4112x16x128 .f32 :=
  transpose S2x4112x16x128 [0, 3, 1, 2]
    (Host.dotGeneral dot_S2x4112x16x128_S2x16x4112x4112_S2x16x128x4112_1_3_3_2_02_01 none v p)
    transposes_S2x16x128x4112_S2x4112x16x128_0_3_1_2

/-- The heads' output maps. -/
noncomputable def heads (o : FVec Ideal S2x4112x16x128 .f32) (w : FVec Ideal S16x128x256 .f32) :
    FVec Ideal S2x4112x16x256 .f32 :=
  transpose S2x4112x16x256 [2, 3, 0, 1]
    (Host.dotGeneral dot_S16x128x256_S2x4112x16x128_S16x256x2x4112_1_3_2_01_0_2 none w o)
    transposes_S16x256x2x4112_S2x4112x16x256_2_3_0_1

/-- The rows behind their padding. -/
noncomputable def placed (y : FVec Ideal S2x4112x16x256 .f32) : FVec Ideal S8448x4096 .f32 :=
  shapeCast S8448x4096
    (pad S2x4224x4096 ![0, 112, 0] ![0, 0, 0] ![0, 0, 0]
      (shapeCast S2x4112x4096 y shapeCasts_S2x4112x16x256_S2x4112x4096)
      (sitofp FTy.f32 (constantI S_ 32 0#32)) pads_S2x4112x4096_S2x4224x4096_000_11200_000 h_S_)
    shapeCasts_S2x4224x4096_S8448x4096

variable (m : (ℓ : Loc nD τ sig) → Buf (Elt Ideal) ℓ) (c : Dev nD)

/-- The arguments. -/
noncomputable abbrev argQ : FVec Ideal S2x4112x16x128 .f32 := m ((c.tc : Thread nD τ).loc main_arg0)
noncomputable abbrev argK : FVec Ideal S2x4112x16x128 .f32 := m ((c.tc : Thread nD τ).loc main_arg1)
noncomputable abbrev argV : FVec Ideal S2x4112x16x128 .f32 := m ((c.tc : Thread nD τ).loc main_arg2)
noncomputable abbrev argC : FVec Ideal S2x4112x16 .f32 := m ((c.tc : Thread nD τ).loc main_arg3)
noncomputable abbrev argW : FVec Ideal S16x128x256 .f32 := m ((c.tc : Thread nD τ).loc main_arg4)

theorem result_eq : (Cert.ReferenceIdeal.Value.res_main_v36 m c : FVec Ideal S8448x4096 .f32)
    = placed (heads (mix (probs (exps (logits (argQ m c) (argK m c) (argC m c))
        (top (logits (argQ m c) (argK m c) (argC m c))))) (argV m c)) (argW m c)) := rfl

theorem placed_apply (y : FVec Ideal S2x4112x16x256 .f32) (b : Fin 2) (i : Fin 4112) (h : Fin 16) (e : Fin 256)
    (R : Fin 8448) (N : Fin 4096) (hR : R.val = b.val * 4224 + (112 + i.val)) (hN : N.val = h.val * 256 + e.val) :
    placed y (ix2 R N) = y (ix4 b i h e) := by
  unfold placed
  pointwise
  have h1 : R.val / 4224 = b.val := by omega
  have h2 : R.val % 4224 = 112 + i.val := by omega
  have h3 : N.val / 256 = h.val := by omega
  have h4 : N.val % 256 = e.val := by omega
  rw [dif_pos ⟨by omega, by omega, by omega⟩]
  congr 1
  simp only [h1, h2, h3, h4, Nat.add_sub_cancel_left]

theorem heads_apply (o : FVec Ideal S2x4112x16x128 .f32) (w : FVec Ideal S16x128x256 .f32)
    (b : Fin 2) (i : Fin 4112) (h : Fin 16) (e : Fin 256) :
    heads o w (ix4 b i h e) = ∑ d, w (ix3 h d e) * o (ix4 b i h d) := by
  unfold heads
  pointwise

theorem mix_apply (p : FVec Ideal S2x16x4112x4112 .f32) (v : FVec Ideal S2x4112x16x128 .f32)
    (b : Fin 2) (i : Fin 4112) (h : Fin 16) (d : Fin 128) :
    mix p v (ix4 b i h d) = ∑ j, v (ix4 b j h d) * p (ix4 b h i j) := by
  unfold mix
  pointwise

theorem probs_apply (x : FVec Ideal S2x16x4112x4112 .f32) (b : Fin 2) (h : Fin 16) (i j : Fin 4112) :
    probs x (ix4 b h i j) = Ideal.div (x (ix4 b h i j)) (∑ n, x (ix4 b h i n)) := by
  unfold probs
  pointwise

theorem exps_apply (x : FVec Ideal S2x16x4112x4112 .f32) (t : FVec Ideal S2x16x4112 .f32)
    (b : Fin 2) (h : Fin 16) (i j : Fin 4112) :
    exps x t (ix4 b h i j) = Ideal.exp (x (ix4 b h i j) - t (ix3 b h i)) := by
  unfold exps
  pointwise

theorem top_raw (x : FVec Ideal S2x16x4112x4112 .f32) (z : FVec Ideal S_ .f32) (b : Fin 2) (h : Fin 16) (i : Fin 4112) :
    Host.reduce FloatOps.maximumf x z reducesTo_S2x16x4112x4112_S2x16x4112_d3 h_S_ (ix3 b h i)
      = Finset.univ.fold max (z (Shape.Idx.first h_S_)) fun j => x (ix4 b h i j) := by
  pointwise

theorem negInf : Ideal.ofBits .f32 0xFF800000#32 = ⊥ := by
  simp [Ideal.ofBits, Ideal.ieee]

theorem max_at (u w : FVec Ideal S2x16x4112 .f32) (y : S2x16x4112.Idx) : maximumf u w y = max (u y) (w y) := rfl

theorem spread (z : FVec Ideal S_ .f32) (b : Fin 2) (h : Fin 16) (i : Fin 4112) :
    broadcastInDim S2x16x4112 ![] bcast_S_S2x16x4112 z (ix3 b h i) = z ix0 := by
  pointwise

theorem negInf_at (y : S_.Idx) : (constant S_ FTy.f32 4286578688#32 : FVec Ideal S_ .f32) y = ⊥ := negInf

theorem top_apply (x : FVec Ideal S2x16x4112x4112 .f32) (b : Fin 2) (h : Fin 16) (i : Fin 4112) :
    top x (ix3 b h i) = max ⊥ (Finset.univ.fold max ⊥ fun j => x (ix4 b h i j)) := by
  unfold top
  rw [max_at, top_raw, spread, negInf_at, negInf_at]

theorem le_word (i j : Fin 4112) : IntOp.cmpi CmpIPredicate.sle (BitVec.ofNat 32 j.val) (BitVec.ofNat 32 i.val)
    = if j.val ≤ i.val then 1#1 else 0#1 := by
  have hb : ∀ x : Fin 4112, (BitVec.ofNat 32 x.val).toInt = x.val := by
    intro x
    have hx := x.isLt
    rw [BitVec.toInt_eq_toNat_of_lt] <;> rw [BitVec.toNat_ofNat, Nat.mod_eq_of_lt (by omega)]
    omega
  unfold IntOp.cmpi
  simp only [BitVec.sle, hb, Nat.cast_le]
  by_cases h : j.val ≤ i.val <;> simp [h]

theorem root : Ideal.sqrt (Ideal.ofBits .f32 1124073472#32) = ((Real.sqrt 128 : ℝ) : EReal) := by
  have e : Ideal.ofBits .f32 1124073472#32 = ((128 : ℝ) : EReal) := by
    simp [Ideal.ofBits, Ideal.ieee]
    rw [← EReal.coe_mul]
    norm_num
  rw [e, Ideal.sqrt_coe, if_neg (by norm_num)]

theorem logits_apply (q k : FVec Ideal S2x4112x16x128 .f32) (g : FVec Ideal S2x4112x16 .f32)
    (b : Fin 2) (h : Fin 16) (i j : Fin 4112) :
    logits q k g (ix4 b h i j) = if j.val ≤ i.val then
      Ideal.div (∑ d, q (ix4 b i h d) * k (ix4 b j h d)) ((Real.sqrt 128 : ℝ) : EReal) + g (ix3 b i h) - g (ix3 b j h)
      else ⊥ := by
  unfold logits
  pointwise
  rw [le_word, root]
  by_cases hji : j.val ≤ i.val
  · rw [if_pos hji, if_pos hji]
    rfl
  · rw [if_neg hji, if_neg hji]
    exact negInf

end Cert.Proof.Ref
-- ==== Proof.Same.lean ====
module

public import proofs.«01_k».proof.Proof.Online

@[expose] public section

/-! A row of weights to base two under any bound is the row's softmax to base `e` under its maximum. -/

open Idealize.ShloMosaic

namespace Cert.Proof.Online

/-- The columns that carry nothing drop out of a sum. -/
theorem sum_columns (G : ℕ → EReal) (i : Fin 4112) (n : ℕ) (hi : 112 + i.val < n) (hn : n ≤ 4224)
    (h0 : ∀ c < 112, G c = 0) (h1 : ∀ j : Fin 4112, i < j → G (112 + j.val) = 0) :
    ∑ c ∈ Finset.range n, G c = ∑ j : Fin 4112, G (112 + j.val) := by
  have e : ∑ c ∈ Finset.range n, G c = ∑ c ∈ Finset.range (112 + 4112), G c := by
    refine Finset.sum_subset (fun c hc => Finset.mem_range.mpr (by have := Finset.mem_range.mp hc; omega)) ?_
    intro c hc hc'
    have a1 := Finset.mem_range.mp hc
    have a2 : ¬ c < n := fun q => hc' (Finset.mem_range.mpr q)
    have q := h1 ⟨c - 112, by omega⟩ (by show i.val < c - 112; omega)
    simpa only [show 112 + (c - 112) = c by omega] using q
  rw [e, Finset.sum_range_add, Finset.sum_eq_zero (fun c hc => h0 c (Finset.mem_range.mp hc)), zero_add]
  exact Finset.sum_range (fun x => G (112 + x))

theorem softmax (y : Fin 4112 → ℝ) (g : ℝ) (i : Fin 4112) (t f : ℕ → EReal) (x : Fin 4112 → EReal) (n : ℕ) (M T : EReal)
    (hi : 112 + i.val < n) (hn : n ≤ 4224) (hM : ∀ c < n, t c ≤ M) (hMt : M ≠ ⊤)
    (ht : ∀ j : Fin 4112, t (112 + j.val) = if j.val ≤ i.val then (((y j - g) / Real.log 2 : ℝ) : EReal) else ⊥)
    (ht0 : ∀ c < 112, t c = ⊥)
    (hx : ∀ j : Fin 4112, x j = if j.val ≤ i.val then ((y j : ℝ) : EReal) else ⊥)
    (hT : T = max ⊥ (Finset.univ.fold max ⊥ x)) :
    Ideal.div (∑ c ∈ Finset.range n, Ideal.exp2 (t c - M) * f c) (∑ c ∈ Finset.range n, Ideal.exp2 (t c - M))
      = ∑ j, Ideal.div (Ideal.exp (x j - T)) (∑ j, Ideal.exp (x j - T)) * f (112 + j.val) := by
  have l2 : Real.log 2 ≠ 0 := (Real.log_pos (by norm_num)).ne'
  have hMb : M ≠ ⊥ := fun q => by
    have := hM _ hi
    rw [ht i, if_pos (le_refl _), q] at this
    exact EReal.coe_ne_bot _ (le_bot_iff.mp this)
  lift M to ℝ using ⟨hMt, hMb⟩
  have hTt : T ≠ ⊤ := by
    rw [hT, max_eq_right bot_le]
    refine fold_ne_top _ _ fun j _ => ?_
    rw [hx j]
    split
    · exact EReal.coe_ne_top _
    · exact bot_ne_top
  have hTb : T ≠ ⊥ := fun q => by
    have := (le_fold Finset.univ x ⊥ i (Finset.mem_univ _)).trans (le_max_right ⊥ _)
    rw [← hT, hx i, if_pos (le_refl _), q] at this
    exact EReal.coe_ne_bot _ (le_bot_iff.mp this)
  clear hT
  lift T to ℝ using ⟨hTt, hTb⟩
  have hE : ∀ j : Fin 4112, Ideal.exp (x j - (T : EReal))
      = ((if j.val ≤ i.val then Real.exp (y j - T) else 0 : ℝ) : EReal) := fun j => by
    rw [hx j]
    by_cases h : j.val ≤ i.val
    · rw [if_pos h, if_pos h, ← EReal.coe_sub, Ideal.exp_coe]
    · rw [if_neg h, if_neg h]
      simp
  have hW : ∀ j : Fin 4112, Ideal.exp2 (t (112 + j.val) - (M : EReal))
      = ((Real.exp (T - g - M * Real.log 2) * (if j.val ≤ i.val then Real.exp (y j - T) else 0) : ℝ) : EReal) := fun j => by
    rw [ht j]
    by_cases h : j.val ≤ i.val
    · rw [if_pos h, if_pos h, ← EReal.coe_sub, exp2_real, ← Real.exp_add]
      congr 2
      field_simp
      ring
    · rw [if_neg h, if_neg h]
      simp
  have z0 : ∀ c < 112, Ideal.exp2 (t c - (M : EReal)) = 0 := fun c hc => by
    rw [ht0 c hc]
    simp
  have z1 : ∀ j : Fin 4112, i < j → Ideal.exp2 (t (112 + j.val) - (M : EReal)) = 0 := fun j hj => by
    have : ¬ j.val ≤ i.val := by have : i.val < j.val := hj; omega
    rw [ht j, if_neg this]
    simp
  rw [sum_columns _ i n hi hn (fun c hc => by rw [z0 c hc, zero_mul]) (fun j hj => by rw [z1 j hj, zero_mul]),
    sum_columns _ i n hi hn z0 z1]
  simp only [hE, hW]
  refine quotient _ (fun j => f (112 + j.val)) _ (Real.exp_pos _) (fun j => ?_) ?_
  · split
    · exact (Real.exp_pos _).le
    · exact le_refl _
  · refine Finset.sum_pos' (fun j _ => ?_) ⟨i, Finset.mem_univ _, ?_⟩
    · split
      · exact (Real.exp_pos _).le
      · exact le_refl _
    · rw [if_pos (le_refl _)]
      exact Real.exp_pos _

end Cert.Proof.Online
-- ==== Proof.Cond.lean ====
module

public import proofs.«01_k».proof.Pre_finite
public import proofs.«01_k».proof.On_tokens
public import Idealize.ShloMosaic.Lib.ReduceAll
public import Idealize.ShloMosaic.Lib.Pointwise
public import Idealize.ShloMosaic.PureOps.Ideal.Laws

@[expose] public section

/-! What the precondition gives (queries, keys and gates are real numbers) and which rows are tokens. -/

open Idealize.ShloMosaic

namespace Cert.Proof.Cond

theorem preFacts : Cert.Pre_finite.Facts where
  bcast_S_S2x4112x16x128 := by decide
  reducesTo_S2x4112x16x128_S_d0_1_2_3 := by decide
  h_S_ := by decide
  bcast_S_S2x4112x16 := by decide
  reducesTo_S2x4112x16_S_d0_1_2 := by decide

theorem onFacts : Cert.On_tokens.Facts where
  bcast_S_S8448x4096 := by decide

theorem posInf : Ideal.ofBits .f32 0x7F800000#32 = ⊤ := by
  simp [Ideal.ofBits, Ideal.ieee]

/-- A value of finite magnitude is a real number. -/
theorem real_of_lt (x : EReal) (h : Ideal.cmp .olt (max x (-x)) (Ideal.ofBits .f32 0x7F800000#32) = 1#1) :
    ∃ r : ℝ, x = (r : EReal) := by
  rw [posInf] at h
  have h' : max x (-x) < ⊤ := by
    by_contra q
    simp [Ideal.cmp, q] at h
  have h1 : x ≠ ⊤ := fun q => by rw [q] at h'; simp at h'
  have h2 : x ≠ ⊥ := fun q => by rw [q] at h'; simp at h'
  exact ⟨x.toReal, (EReal.coe_toReal h1 h2).symm⟩

instance : Subsingleton Cert.Pre_finite.S_.Idx := ⟨fun a b => funext fun x => x.elim0⟩

theorem pre (q k v : FVec Ideal Cert.Pre_finite.S2x4112x16x128 .f32) (c : FVec Ideal Cert.Pre_finite.S2x4112x16 .f32)
    (w : FVec Ideal Cert.Pre_finite.S16x128x256 .f32)
    (h : (@Cert.Pre_finite.fn preFacts Ideal _ q k v c w) = fun _ => 1#1) :
    (∀ i, ∃ r : ℝ, q i = (r : EReal)) ∧ (∀ i, ∃ r : ℝ, k i = (r : EReal)) ∧ (∀ i, ∃ r : ℝ, c i = (r : EReal)) := by
  have h0 := congrFun h ix0
  unfold Cert.Pre_finite.fn at h0
  obtain ⟨h1, h2⟩ := IntOp.andi_eq_one.mp h0
  obtain ⟨h3, h4⟩ := IntOp.andi_eq_one.mp h1
  refine ⟨fun i => ?_, fun i => ?_, fun i => ?_⟩
  · exact real_of_lt _ (Host.reduce_andi_all _ _ _ _ _ h3 i)
  · exact real_of_lt _ (Host.reduce_andi_all _ _ _ _ _ h4 i)
  · exact real_of_lt _ (Host.reduce_andi_all _ _ _ _ _ h2 i)

theorem on (q k v : FVec Ideal Cert.On_tokens.S2x4112x16x128 .f32) (c : FVec Ideal Cert.On_tokens.S2x4112x16 .f32)
    (w : FVec Ideal Cert.On_tokens.S16x128x256 .f32) (R : Fin 8448) (N : Fin 4096)
    (h : (@Cert.On_tokens.fn onFacts Ideal _ q k v c w) (ix2 R N) = 1#1) : 112 ≤ R.val % 4224 := by
  have hR := R.isLt
  have h' : IntOp.cmpi .sge (IntOp.remsi .host (BitVec.ofNat 32 R.val) 4224#32) 112#32 = 1#1 := by
    rw [← h]
    unfold Cert.On_tokens.fn
    pointwise
  have e : IntOp.remsi .host (BitVec.ofNat 32 R.val) 4224#32 = BitVec.ofNat 32 (R.val % 4224) := by
    unfold IntOp.remsi
    rw [if_neg (by simp [IntOp.SDivCorner])]
    apply BitVec.eq_of_toInt_eq
    rw [BitVec.toInt_srem]
    have a1 : (BitVec.ofNat 32 R.val).toInt = R.val := by
      rw [BitVec.toInt_eq_toNat_of_lt] <;> rw [BitVec.toNat_ofNat, Nat.mod_eq_of_lt (by omega)]
      omega
    have a2 : (BitVec.ofNat 32 (R.val % 4224)).toInt = ((R.val % 4224 : ℕ) : ℤ) := by
      rw [BitVec.toInt_eq_toNat_of_lt] <;> rw [BitVec.toNat_ofNat, Nat.mod_eq_of_lt (by omega)]
      omega
    have a3 : (4224#32).toInt = 4224 := by decide
    rw [a1, a2, a3, Int.tmod_eq_emod_of_nonneg (by omega)]
    push_cast
    rfl
  rw [e] at h'
  by_contra q
  have a2 : (BitVec.ofNat 32 (R.val % 4224)).toInt = ((R.val % 4224 : ℕ) : ℤ) := by
    rw [BitVec.toInt_eq_toNat_of_lt] <;> rw [BitVec.toNat_ofNat, Nat.mod_eq_of_lt (by omega)]
    omega
  have a3 : (112#32).toInt = 112 := by decide
  unfold IntOp.cmpi at h'
  simp only [BitVec.sle, a2, a3] at h'
  rw [decide_eq_false (by omega : ¬ (112 : ℤ) ≤ ((R.val % 4224 : ℕ) : ℤ))] at h'
  exact absurd h' (by decide)

end Cert.Proof.Cond
-- ==== Proof.Agree.lean ====
module

public import proofs.«01_k».proof.Proof.Attend
public import proofs.«01_k».proof.Proof.Ref
public import proofs.«01_k».proof.Proof.Same
public import proofs.«01_k».proof.Proof.Cond

@[expose] public section

/-! At a token's row the launch and the reference have one value. -/

open Idealize.ShloMosaic

namespace Cert.Proof.Agree

abbrev Tok := FVec Ideal (⟨4, ![2, 4112, 16, 128]⟩ : Shape) .f32
abbrev Gate := FVec Ideal (⟨3, ![2, 4112, 16]⟩ : Shape) .f32

theorem coe_sum {n : ℕ} (f : Fin n → ℝ) : (∑ j, ((f j : ℝ) : EReal)) = ((∑ j, f j : ℝ) : EReal) := by
  induction (Finset.univ : Finset (Fin n)) using Finset.induction_on with
  | empty => simp
  | insert i s hi ih => rw [Finset.sum_insert hi, Finset.sum_insert hi, ih, EReal.coe_add]

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

theorem padded_token (X : Tok) (b : Fin 2) (j : Fin 4112) (h : Fin 16) (d : Fin 128) :
    Host.padded X b (112 + j.val) h d = X (ix4 b j h d) := by
  unfold Host.padded
  rw [dif_pos ⟨by omega, by omega⟩]
  congr 2
  exact Fin.ext (by show 112 + j.val - 112 = j.val; omega)

theorem padded_before (X : Tok) (b : Fin 2) (n : ℕ) (hn : n < 112) (h : Fin 16) (d : Fin 128) :
    Host.padded X b n h d = 0 := by
  unfold Host.padded
  rw [dif_neg (by omega)]

theorem decay_token (C : Gate) (b : Fin 2) (j : Fin 4112) (h : Fin 16) :
    Host.decay C b (112 + j.val) h = Ideal.div (C (ix3 b j h)) ((Real.log 2 : ℝ) : EReal) := by
  unfold Host.decay
  rw [dif_pos ⟨by omega, by omega⟩, log_two]
  congr 3
  exact Fin.ext (by show 112 + j.val - 112 = j.val; omega)

theorem decay_before (C : Gate) (b : Fin 2) (n : ℕ) (hn : n < 112) (h : Fin 16) : Host.decay C b n h = ⊤ := by
  unfold Host.decay
  rw [dif_neg (by omega)]
  exact Cond.posInf

section

variable (Q K : Tok) (C : Gate) (hQ : ∀ i, ∃ r : ℝ, Q i = (r : EReal)) (hK : ∀ i, ∃ r : ℝ, K i = (r : EReal))
  (hC : ∀ i, ∃ r : ℝ, C i = (r : EReal))
include hQ hK hC

/-- The logits of both programs at a row, from one real row. -/
theorem logits (b : Fin 2) (h : Fin 16) (i : Fin 4112) : ∃ (y : Fin 4112 → ℝ) (g : ℝ),
    (∀ j, Ref.logits Q K C (ix4 b h i j) = if j.val ≤ i.val then ((y j : ℝ) : EReal) else ⊥) ∧
    (∀ j : Fin 4112, Attend.causal Q K C b h (112 + i.val) (112 + j.val)
      = if j.val ≤ i.val then (((y j - g) / Real.log 2 : ℝ) : EReal) else ⊥) ∧
    (∀ n < 112, Attend.causal Q K C b h (112 + i.val) n = ⊥) ∧
    (∀ n, Attend.causal Q K C b h (112 + i.val) n ≠ ⊤) := by
  choose q hq using hQ
  choose k hk using hK
  choose g hg using hC
  have l2 : Real.log 2 ≠ 0 := (Real.log_pos (by norm_num)).ne'
  have s2 : Real.sqrt 128 ≠ 0 := (Real.sqrt_pos.mpr (by norm_num)).ne'
  have dot : ∀ j : Fin 4112, (∑ d, Q (ix4 b i h d) * K (ix4 b j h d))
      = ((∑ d, q (ix4 b i h d) * k (ix4 b j h d) : ℝ) : EReal) := fun j => by
    rw [← coe_sum]
    refine Finset.sum_congr rfl fun d _ => ?_
    rw [hq, hk, EReal.coe_mul]
  have A2 : ∀ j : Fin 4112, Attend.causal Q K C b h (112 + i.val) (112 + j.val)
      = if j.val ≤ i.val then ((((∑ d, q (ix4 b i h d) * k (ix4 b j h d)) * (1 / Real.sqrt 128) + g (ix3 b i h) - g (ix3 b j h)
          - g (ix3 b i h)) / Real.log 2 : ℝ) : EReal) else ⊥ := fun j => by
    unfold Attend.causal
    have e : (112 + j.val ≤ 112 + i.val) ↔ (j.val ≤ i.val) := by omega
    simp only [e]
    by_cases hji : j.val ≤ i.val
    · rw [if_pos hji, if_pos hji]
      unfold Attend.logit
      simp only [padded_token, decay_token]
      rw [dot, hg, Ideal.div_coe l2, ← EReal.coe_mul, ← EReal.coe_mul, ← EReal.coe_sub]
      congr 1
      field_simp
      ring
    · rw [if_neg hji, if_neg hji]
  have A3 : ∀ n < 112, Attend.causal Q K C b h (112 + i.val) n = ⊥ := fun n hn => by
    unfold Attend.causal
    rw [if_pos (by omega)]
    unfold Attend.logit
    simp only [padded_before K b n hn, decay_before C b n hn, mul_zero, Finset.sum_const_zero, zero_mul]
    simp
  refine ⟨fun j => (∑ d, q (ix4 b i h d) * k (ix4 b j h d)) * (1 / Real.sqrt 128) + g (ix3 b i h) - g (ix3 b j h), g (ix3 b i h),
    fun j => ?_, A2, A3, fun n => ?_⟩
  · rw [Ref.logits_apply]
    by_cases hji : j.val ≤ i.val
    · rw [if_pos hji, if_pos hji, dot, hg, hg, Ideal.div_coe s2, ← EReal.coe_mul, ← EReal.coe_add, ← EReal.coe_sub]
    · rw [if_neg hji, if_neg hji]
  · by_cases hn : n < 112
    · rw [A3 n hn]
      exact bot_ne_top
    · by_cases hn' : n < 4224
      · have := A2 ⟨n - 112, by omega⟩
        rw [show 112 + (⟨n - 112, by omega⟩ : Fin 4112).val = n by show 112 + (n - 112) = n; omega] at this
        rw [this]
        split
        · exact EReal.coe_ne_top _
        · exact bot_ne_top
      · unfold Attend.causal
        rw [if_neg (by omega)]
        exact bot_ne_top

end

theorem agree (m : (ℓ : Loc Cert.KernelIdeal.nD Cert.KernelIdeal.τ Cert.KernelIdeal.sig) → Buf (Elt Ideal) ℓ)
    (c : Dev Cert.KernelIdeal.nD)
    (m' : (ℓ : Loc Cert.ReferenceIdeal.nD Cert.ReferenceIdeal.τ Cert.ReferenceIdeal.sig) → Buf (Elt Ideal) ℓ)
    (c' : Dev Cert.ReferenceIdeal.nD)
    (e0 : Host.argQ m c = Ref.argQ m' c') (e1 : Host.argK m c = Ref.argK m' c') (e2 : Host.argV m c = Ref.argV m' c')
    (e3 : Host.argC m c = Ref.argC m' c') (e4 : Host.argW m c = Ref.argW m' c')
    (hQ : ∀ i, ∃ r : ℝ, Host.argQ m c i = (r : EReal)) (hK : ∀ i, ∃ r : ℝ, Host.argK m c i = (r : EReal))
    (hC : ∀ i, ∃ r : ℝ, Host.argC m c i = (r : EReal))
    (R : Fin 8448) (N : Fin 4096) (hR : 112 ≤ R.val % 4224) :
    Attend.out m c (ix2 R N) = (Cert.ReferenceIdeal.Value.res_main_v36 m' c' : FVec Ideal Cert.ReferenceIdeal.S8448x4096 .f32) (ix2 R N) := by
  obtain ⟨b, hb⟩ : ∃ b : Fin 2, b.val = R.val / 4224 := ⟨⟨R.val / 4224, by omega⟩, rfl⟩
  obtain ⟨i, hi⟩ : ∃ i : Fin 4112, i.val = R.val % 4224 - 112 := ⟨⟨R.val % 4224 - 112, by omega⟩, rfl⟩
  obtain ⟨h, hh⟩ : ∃ h : Fin 16, h.val = N.val / 256 := ⟨⟨N.val / 256, by omega⟩, rfl⟩
  obtain ⟨e, he⟩ : ∃ e : Fin 256, e.val = N.val % 256 := ⟨⟨N.val % 256, by omega⟩, rfl⟩
  have hR' : R.val = b.val * 4224 + (112 + i.val) := by omega
  have hN : N.val = h.val * 256 + e.val := by omega
  obtain ⟨y, g, a1, a2, a3, a4⟩ := logits _ _ _ hQ hK hC b h i
  obtain ⟨M, n, b1, b2, b3, b4, b5⟩ := Attend.result m c b h e (112 + i.val) (by omega) R N hR' hN a4
  rw [b5, Ref.result_eq, Ref.placed_apply _ b i h e R N hR' hN, Ref.heads_apply]
  refine Finset.sum_congr rfl fun d _ => ?_
  rw [mul_comm, Ref.mix_apply, e4]
  congr 1
  have s := Online.softmax y g i (Attend.causal (Host.argQ m c) (Host.argK m c) (Host.argC m c) b h (112 + i.val))
    (fun k => Host.padded (Host.argV m c) b k h d)
    (fun j => Ref.logits (Host.argQ m c) (Host.argK m c) (Host.argC m c) (ix4 b h i j)) n M _ b1 b2 b4 b3 a2 a3 a1 rfl
  rw [s]
  refine Finset.sum_congr rfl fun j _ => ?_
  rw [mul_comm, padded_token, Ref.probs_apply]
  simp only [Ref.exps_apply, Ref.top_apply, e0, e1, e2, e3]

end Cert.Proof.Agree
-- ==== Proof.Rows.lean ====
module

public import Idealize.ShloMosaic.Lib.Pointwise

@[expose] public section

/-! A row of an array of two sequences behind 112 rows of padding each, and its product with a column. -/

open Idealize.ShloMosaic

namespace Cert.Proof.Rows

theorem zero_word : (FloatOps.sitofp .f32 (0#32 : BitVec 32) : Ideal .f32) = (0 : EReal) := by
  show (((0#32 : BitVec 32).toInt : ℝ) : EReal) = 0
  simp

variable {K : ℕ}

/-- Row `R` of the padded array, at column `k`. -/
noncomputable def row (x : FVec Ideal (⟨3, ![2, 4112, K]⟩ : Shape) .f32) (R : Fin 8448) (k : Fin K) : EReal :=
  if h : R.val / 4224 < 2 ∧ (112 ≤ R.val % 4224 ∧ R.val % 4224 - 112 < 4112) then
    x (ix3 ⟨R.val / 4224, h.1⟩ ⟨R.val % 4224 - 112, h.2.2⟩ k)
  else FloatOps.sitofp (F := Ideal) .f32 (0#32 : BitVec 32)

/-- A padded row's product with a column is the row's own product, and nothing on the padding. -/
theorem sum_row (x : FVec Ideal (⟨3, ![2, 4112, K]⟩ : Shape) .f32) (R : Fin 8448) (w : Fin K → EReal) :
    ∑ k, row x R k * w k = if h : R.val / 4224 < 2 ∧ (112 ≤ R.val % 4224 ∧ R.val % 4224 - 112 < 4112) then
        ∑ k, x (ix3 ⟨R.val / 4224, h.1⟩ ⟨R.val % 4224 - 112, h.2.2⟩ k) * w k
      else FloatOps.sitofp (F := Ideal) .f32 (0#32 : BitVec 32) := by
  unfold row
  by_cases h : R.val / 4224 < 2 ∧ (112 ≤ R.val % 4224 ∧ R.val % 4224 - 112 < 4112)
  · simp only [dif_pos h]
  · simp only [dif_neg h, zero_word, zero_mul, Finset.sum_const_zero]

end Cert.Proof.Rows
-- ==== Proof.Project.lean ====
module

public import proofs.«01_k».proof.Proof.Rows
public import proofs.«01_k».proof.Proof.Gen.Kernel3Ideal.Value
public import proofs.«01_k».proof.Proof.Gen.Reference3Ideal.Run
public import Idealize.ShloMosaic.Lib.StableHlo.ReadAt
public import Idealize.ShloMosaic.Lib.Claim
public import Idealize.ShloMosaic.Lib.VecWindow

@[expose] public section

/-! The projection to queries, keys and values: each grid point's block is the product of its row block with its column block, so that the launch's
array is the reference's product behind the padding. -/

open Idealize.ShloMosaic Idealize.ShloMosaic.TcCoe Idealize.ShloMosaic.Tactic Idealize.SL.Sem

namespace Cert.Proof.Project

section Launch

open Cert.Kernel3Ideal Cert.Kernel3Ideal.Gen

variable (m : (ℓ : Loc nD τ sig) → Buf (Elt Ideal) ℓ) (c : Dev nD)

/-- The block indices of the windows, decided over the points. -/
theorem index : ∀ t : Fin cfg0.N,
    win0_0.index t = ![t.val / 12, 0] ∧ win0_1.index t = ![0, t.val % 12] ∧ win0_2.index t = ![t.val / 12, t.val % 12] :=
  (by decide +kernel : ∀ t : Fin grid0.N,
    win0_0.index t = ![t.val / 12, 0] ∧ win0_1.index t = ![0, t.val % 12] ∧ win0_2.index t = ![t.val / 12, t.val % 12])

theorem lt (t : Fin cfg0.N) : t.val < 72 := lt_of_lt_of_eq t.isLt N_0

/-- A block of the product. -/
theorem block_apply (x : FVec Ideal S1408x4096 .bf16) (w : FVec Ideal S4096x512 .bf16) (r : Fin 1408) (n : Fin 512) :
    (k0_pay1 (F := Ideal) x w (ix2 r n) : EReal) = ∑ k, (x (ix2 r k) : EReal) * (w (ix2 k n) : EReal) := by
  unfold k0_pay1
  pointwise

/-- A point's rows. -/
theorem rows (t : Fin cfg0.N) (r : Fin 1408) (k : Fin 4096) :
    (iblk m c 0 t : FVec Ideal S1408x4096 .bf16) (ix2 r k)
      = (V m c main_v2 : FVec Ideal S8448x4096 .bf16) (ix2 ⟨t.val / 12 * 1408 + r.val, by have := lt t; omega⟩ k) := by
  have hi := (index t).1
  unfold iblk
  rw [View.read_apply]
  show V m c main_v2 _ = _
  congr 1
  funext a
  apply Fin.ext
  match a with
  | ⟨0, _⟩ => show win0_0.index t 0 * 1408 + 1 * r.val = _; rw [hi]; show t.val / 12 * 1408 + 1 * r.val = _; rw [one_mul]; first | done | rfl
  | ⟨1, _⟩ => show win0_0.index t 1 * 4096 + 1 * k.val = _; rw [hi]; show 0 * 4096 + 1 * k.val = _; rw [one_mul, zero_mul, zero_add]; rfl

/-- A point's columns of weights. -/
theorem columns (t : Fin cfg0.N) (k : Fin 4096) (n : Fin 512) :
    (X0_1 m c t : FVec Ideal S4096x512 .bf16) (ix2 k n)
      = (V m c main_v3 : FVec Ideal S4096x16400 .bf16) (ix2 k ⟨t.val % 12 * 512 + n.val, by omega⟩) := by
  have hi := (index t).2.1
  unfold X0_1 Pipeline.Window.fill
  rw [dif_pos (moved0_1 t _)]
  unfold iblk
  rw [View.read_apply]
  show V m c main_v3 _ = _
  congr 1
  funext a
  apply Fin.ext
  match a with
  | ⟨0, _⟩ => show win0_1.index t 0 * 4096 + 1 * k.val = _; rw [hi]; show 0 * 4096 + 1 * k.val = _; rw [one_mul, zero_mul, zero_add]; rfl
  | ⟨1, _⟩ => show win0_1.index t 1 * 512 + 1 * n.val = _; rw [hi]; show t.val % 12 * 512 + 1 * n.val = _; rw [one_mul]; first | done | rfl

/-- What a point leaves in its block. -/
theorem left (t : Fin cfg0.N) : outsAt0 m c t = k0_pay1 (F := Ideal) (iblk m c 0 t) (X0_1 m c t) := by
  have key : ∀ (i : grid0.Coords) (arg2 : Memref sig .tc .vmem S1408x4096 .bf16) (harg2 : arg2.IsWhole)
      (arg3 : Memref sig .tc .vmem S4096x512 .bf16) (harg3 : arg3.IsWhole) (arg4 : Memref sig .tc .vmem S1408x512 .f32)
      (harg4 : arg4.IsWhole) (x0 : Vec Ideal S1408x4096 .bf16) (x1 : Vec Ideal S4096x512 .bf16),
      out0_A_2 (F := Ideal) c i arg2 harg2 arg3 harg3 arg4 harg4 x0 x1 = k0_pay1 (F := Ideal) x0 x1 := by
    intro i arg2 harg2 arg3 harg3 arg4 harg4 x0 x1
    unfold out0_A_2
    rw [View.read_writes_eq_canon _ _ _ (cover0_A_2 c i arg2 harg2 arg3 harg3 arg4 harg4 x0 x1)]
    unfold kernelRun0_A
    dsimp only
    rw [View.canon_unit_zero (by funext a; fin_cases a <;> rfl), View.readAt_full, View.readAt_full, harg2.read_unread, harg3.read_unread]
  exact key _ _ _ _ _ _ _ _ _

/-- The result array at an index of a point's block. -/
theorem result_at (t : Fin cfg0.N) (r : Fin 1408) (n : Fin 512) :
    @Eq EReal (((dats m 0 c).arrAt 2 cfg0.N : FVec Ideal S8448x6144 .f32)
        (ix2 ⟨t.val / 12 * 1408 + r.val, by have := lt t; omega⟩ ⟨t.val % 12 * 512 + n.val, by omega⟩))
      (k0_pay1 (F := Ideal) (iblk m c 0 t) (X0_1 m c t) (ix2 r n)) := by
  have hi := (index t).2.2
  have h := congrFun ((Value.blocks2 m c t (flush0_2 t)).trans (Value.flushed2 m c t)) (ix2 r n)
  rw [View.read_apply, left] at h
  refine Eq.trans ?_ (h.trans ?_)
  · show (dats m 0 c).arrAt 2 cfg0.N _ = (dats m 0 c).arrAt 2 cfg0.N _
    congr 1
    funext a
    apply Fin.ext
    match a with
    | ⟨0, _⟩ => show _ = win0_2.index t 0 * 1408 + 1 * r.val; rw [hi]; show _ = t.val / 12 * 1408 + 1 * r.val; rw [one_mul]; first | done | rfl
    | ⟨1, _⟩ => show _ = win0_2.index t 1 * 512 + 1 * n.val; rw [hi]; show _ = t.val % 12 * 512 + 1 * n.val; rw [one_mul]; first | done | rfl
  · rfl

/-- The arguments. -/
noncomputable abbrev argX : FVec Ideal S2x4112x4096 .f32 := m ((c : Thread nD τ).loc main_arg0)
noncomputable abbrev argW : FVec Ideal S4096x16400 .f32 := m ((c : Thread nD τ).loc main_arg1)

theorem padded_rows (R : Fin 8448) (k : Fin 4096) :
    (V m c main_v2 : FVec Ideal S8448x4096 .bf16) (ix2 R k) = Rows.row (argX m c) R k := by
  unfold V
  after_reads_at
  first | done | rfl

theorem weights (k : Fin 4096) (n : Fin 16400) :
    (V m c main_v3 : FVec Ideal S4096x16400 .bf16) (ix2 k n) = argW m c (ix2 k ⟨0 + n.val, by omega⟩) := by
  unfold V
  after_reads_at

/-- The result array, from the arguments. -/
theorem result (R : Fin 8448) (n : Fin 6144) :
    @Eq EReal (((dats m 0 c).arrAt 2 cfg0.N : FVec Ideal S8448x6144 .f32) (ix2 R n))
      (∑ k, Rows.row (argX m c) R k * (argW m c (ix2 k ⟨0 + n.val, by omega⟩) : EReal)) := by
  have ht : R.val / 1408 * 12 + n.val / 512 < cfg0.N := lt_of_lt_of_eq (by omega) N_0.symm
  have h := result_at m c ⟨R.val / 1408 * 12 + n.val / 512, ht⟩ ⟨R.val % 1408, Nat.mod_lt _ (by norm_num)⟩ ⟨n.val % 512, Nat.mod_lt _ (by norm_num)⟩
  rw [block_apply] at h
  refine Eq.trans ?_ (h.trans (Finset.sum_congr rfl fun k _ => ?_))
  · congr 1
    congr 1
    · exact Fin.ext (by show R.val = (R.val / 1408 * 12 + n.val / 512) / 12 * 1408 + R.val % 1408; omega)
    · exact Fin.ext (by show n.val = (R.val / 1408 * 12 + n.val / 512) % 12 * 512 + n.val % 512; omega)
  · rw [rows, columns, padded_rows, weights]
    congr 2
    · exact Fin.ext (by show (R.val / 1408 * 12 + n.val / 512) / 12 * 1408 + R.val % 1408 = R.val; omega)
    · congr 1
      exact Fin.ext (by show 0 + ((R.val / 1408 * 12 + n.val / 512) % 12 * 512 + n.val % 512) = 0 + n.val; omega)

end Launch

section Plain

open Cert.Reference3Ideal Cert.Reference3Ideal.Gen

/-- The reference's result. -/
noncomputable def plain (x : FVec Ideal S2x4112x4096 .f32) (w : FVec Ideal S4096x16400 .f32) : FVec Ideal S8448x6144 .f32 :=
  shapeCast _ (pad S2x4224x6144 ![0, 112, 0] ![0, 0, 0] ![0, 0, 0] (extractStridedSlice S2x4112x6144 ![0, 0, 0] (Host.dotGeneral dot_S2x4112x4096_S4096x16400_S2x4112x16400_2_0_01_1_n_n none x w) slices_S2x4112x16400_S2x4112x6144_0_0_0) (sitofp .f32 (constantI S_ 32 0#32)) pads_S2x4112x6144_S2x4224x6144_000_11200_000 h_S_) shapeCasts_S2x4224x6144_S8448x6144

/-- The reference's result at an index. -/
theorem plain_apply (x : FVec Ideal S2x4112x4096 .f32) (w : FVec Ideal S4096x16400 .f32) (R : Fin 8448) (n : Fin 6144) :
    plain x w (ix2 R n) = if k : R.val / 4224 < 2 ∧ (112 ≤ R.val % 4224 ∧ R.val % 4224 - 112 < 4112) then
        ∑ j, x (ix3 ⟨R.val / 4224, k.1⟩ ⟨R.val % 4224 - 112, k.2.2⟩ j) * w (ix2 j ⟨0 + n.val, by omega⟩)
      else FloatOps.sitofp (F := Ideal) .f32 (0#32 : BitVec 32) := by
  unfold plain
  pointwise

end Plain

/-- The launch's array is the reference's. -/
theorem same (m : (ℓ : Loc Cert.Kernel3Ideal.nD Cert.Kernel3Ideal.τ Cert.Kernel3Ideal.sig) → Buf (Elt Ideal) ℓ) (c : Dev Cert.Kernel3Ideal.nD) :
    ((Cert.Kernel3Ideal.Gen.dats m 0 c).arrAt 2 Cert.Kernel3Ideal.cfg0.N : FVec Ideal (⟨2, ![8448, 6144]⟩ : Shape) .f32)
      = plain (argX m c) (argW m c) := by
  funext i
  obtain ⟨R, n, rfl⟩ : ∃ (R : Fin 8448) (n : Fin 6144), i = ix2 R n :=
    ⟨i 0, i 1, by funext a; match a with | ⟨0, _⟩ => rfl | ⟨1, _⟩ => rfl⟩
  exact (result m c R n).trans ((Rows.sum_row (argX m c) R _).trans (plain_apply _ _ R n).symm)

end Cert.Proof.Project
-- ==== Proof.Gates.lean ====
module

public import proofs.«01_k».proof.Proof.Rows
public import proofs.«01_k».proof.Proof.Gen.Kernel4Ideal.Value
public import proofs.«01_k».proof.Proof.Gen.Reference4Ideal.Run
public import Idealize.ShloMosaic.Lib.StableHlo.ReadAt
public import Idealize.ShloMosaic.Lib.Claim

@[expose] public section

/-! The projection to the pooling input and the gates: each grid point's block is the product of its row block with its column block, so that the launch's
array is the reference's product behind the padding. -/

open Idealize.ShloMosaic Idealize.ShloMosaic.TcCoe Idealize.ShloMosaic.Tactic Idealize.SL.Sem

namespace Cert.Proof.Gates

section Launch

open Cert.Kernel4Ideal Cert.Kernel4Ideal.Gen

variable (m : (ℓ : Loc nD τ sig) → Buf (Elt Ideal) ℓ) (c : Dev nD)

/-- The block indices of the windows, decided over the points. -/
theorem index : ∀ t : Fin cfg0.N,
    win0_0.index t = ![t.val / 20, 0] ∧ win0_1.index t = ![0, t.val % 20] ∧ win0_2.index t = ![t.val / 20, t.val % 20] :=
  (by decide +kernel : ∀ t : Fin grid0.N,
    win0_0.index t = ![t.val / 20, 0] ∧ win0_1.index t = ![0, t.val % 20] ∧ win0_2.index t = ![t.val / 20, t.val % 20])

theorem lt (t : Fin cfg0.N) : t.val < 120 := lt_of_lt_of_eq t.isLt N_0

/-- A block of the product. -/
theorem block_apply (x : FVec Ideal S1408x4096 .bf16) (w : FVec Ideal S4096x512 .bf16) (r : Fin 1408) (n : Fin 512) :
    (k0_pay1 (F := Ideal) x w (ix2 r n) : EReal) = ∑ k, (x (ix2 r k) : EReal) * (w (ix2 k n) : EReal) := by
  unfold k0_pay1
  pointwise

/-- A point's rows. -/
theorem rows (t : Fin cfg0.N) (r : Fin 1408) (k : Fin 4096) :
    (iblk m c 0 t : FVec Ideal S1408x4096 .bf16) (ix2 r k)
      = (V m c main_v2 : FVec Ideal S8448x4096 .bf16) (ix2 ⟨t.val / 20 * 1408 + r.val, by have := lt t; omega⟩ k) := by
  have hi := (index t).1
  unfold iblk
  rw [View.read_apply]
  show V m c main_v2 _ = _
  congr 1
  funext a
  apply Fin.ext
  match a with
  | ⟨0, _⟩ => show win0_0.index t 0 * 1408 + 1 * r.val = _; rw [hi]; show t.val / 20 * 1408 + 1 * r.val = _; rw [one_mul]; first | done | rfl
  | ⟨1, _⟩ => show win0_0.index t 1 * 4096 + 1 * k.val = _; rw [hi]; show 0 * 4096 + 1 * k.val = _; rw [one_mul, zero_mul, zero_add]; rfl

/-- A point's columns of weights. -/
theorem columns (t : Fin cfg0.N) (k : Fin 4096) (n : Fin 512) :
    (iblk m c 1 t : FVec Ideal S4096x512 .bf16) (ix2 k n)
      = (V m c main_v4 : FVec Ideal S4096x10240 .bf16) (ix2 k ⟨t.val % 20 * 512 + n.val, by omega⟩) := by
  have hi := (index t).2.1
  unfold iblk
  rw [View.read_apply]
  show V m c main_v4 _ = _
  congr 1
  funext a
  apply Fin.ext
  match a with
  | ⟨0, _⟩ => show win0_1.index t 0 * 4096 + 1 * k.val = _; rw [hi]; show 0 * 4096 + 1 * k.val = _; rw [one_mul, zero_mul, zero_add]; rfl
  | ⟨1, _⟩ => show win0_1.index t 1 * 512 + 1 * n.val = _; rw [hi]; show t.val % 20 * 512 + 1 * n.val = _; rw [one_mul]; first | done | rfl

/-- What a point leaves in its block. -/
theorem left (x : FVec Ideal S1408x4096 .bf16) (w : FVec Ideal S4096x512 .bf16) : out0_2 (F := Ideal) x w = k0_pay1 (F := Ideal) x w := by
  unfold out0_2
  rw [View.canon_unit_zero (by funext a; fin_cases a <;> rfl), View.ld_unit_zero (by funext a; fin_cases a <;> rfl),
    View.ld_unit_zero (by funext a; fin_cases a <;> rfl)]

/-- The result array at an index of a point's block. -/
theorem result_at (t : Fin cfg0.N) (r : Fin 1408) (n : Fin 512) :
    @Eq EReal (((dats m 0 c).arrAt 2 cfg0.N : FVec Ideal S8448x10240 .f32)
        (ix2 ⟨t.val / 20 * 1408 + r.val, by have := lt t; omega⟩ ⟨t.val % 20 * 512 + n.val, by omega⟩))
      (k0_pay1 (F := Ideal) (iblk m c 0 t) (iblk m c 1 t) (ix2 r n)) := by
  have hi := (index t).2.2
  have h := congrFun ((Value.blocks2 m c t (flush0_2 t)).trans (Value.flushed2 m c t)) (ix2 r n)
  rw [View.read_apply, left] at h
  refine Eq.trans ?_ (h.trans ?_)
  · show (dats m 0 c).arrAt 2 cfg0.N _ = (dats m 0 c).arrAt 2 cfg0.N _
    congr 1
    funext a
    apply Fin.ext
    match a with
    | ⟨0, _⟩ => show _ = win0_2.index t 0 * 1408 + 1 * r.val; rw [hi]; show _ = t.val / 20 * 1408 + 1 * r.val; rw [one_mul]; first | done | rfl
    | ⟨1, _⟩ => show _ = win0_2.index t 1 * 512 + 1 * n.val; rw [hi]; show _ = t.val % 20 * 512 + 1 * n.val; rw [one_mul]; first | done | rfl
  · rfl

/-- The arguments. -/
noncomputable abbrev argX : FVec Ideal S2x4112x4096 .f32 := m ((c : Thread nD τ).loc main_arg0)
noncomputable abbrev argW : FVec Ideal S4096x16400 .f32 := m ((c : Thread nD τ).loc main_arg1)

theorem padded_rows (R : Fin 8448) (k : Fin 4096) :
    (V m c main_v2 : FVec Ideal S8448x4096 .bf16) (ix2 R k) = Rows.row (argX m c) R k := by
  unfold V
  after_reads_at
  first | done | rfl

theorem weights (k : Fin 4096) (n : Fin 10240) :
    (V m c main_v4 : FVec Ideal S4096x10240 .bf16) (ix2 k n) = argW m c (ix2 k ⟨6160 + n.val, by omega⟩) := by
  unfold V
  after_reads_at
  first | done | rfl | (congr 2; exact Fin.ext (by simp))

/-- The result array, from the arguments. -/
theorem result (R : Fin 8448) (n : Fin 10240) :
    @Eq EReal (((dats m 0 c).arrAt 2 cfg0.N : FVec Ideal S8448x10240 .f32) (ix2 R n))
      (∑ k, Rows.row (argX m c) R k * (argW m c (ix2 k ⟨6160 + n.val, by omega⟩) : EReal)) := by
  have ht : R.val / 1408 * 20 + n.val / 512 < cfg0.N := lt_of_lt_of_eq (by omega) N_0.symm
  have h := result_at m c ⟨R.val / 1408 * 20 + n.val / 512, ht⟩ ⟨R.val % 1408, Nat.mod_lt _ (by norm_num)⟩ ⟨n.val % 512, Nat.mod_lt _ (by norm_num)⟩
  rw [block_apply] at h
  refine Eq.trans ?_ (h.trans (Finset.sum_congr rfl fun k _ => ?_))
  · congr 1
    congr 1
    · exact Fin.ext (by show R.val = (R.val / 1408 * 20 + n.val / 512) / 20 * 1408 + R.val % 1408; omega)
    · exact Fin.ext (by show n.val = (R.val / 1408 * 20 + n.val / 512) % 20 * 512 + n.val % 512; omega)
  · rw [rows, columns, padded_rows, weights]
    congr 2
    · exact Fin.ext (by show (R.val / 1408 * 20 + n.val / 512) / 20 * 1408 + R.val % 1408 = R.val; omega)
    · congr 1
      exact Fin.ext (by show 6160 + ((R.val / 1408 * 20 + n.val / 512) % 20 * 512 + n.val % 512) = 6160 + n.val; omega)

end Launch

section Plain

open Cert.Reference4Ideal Cert.Reference4Ideal.Gen

/-- The reference's result. -/
noncomputable def plain (x : FVec Ideal S2x4112x4096 .f32) (w : FVec Ideal S4096x16400 .f32) : FVec Ideal S8448x10240 .f32 :=
  shapeCast _ (pad S2x4224x10240 ![0, 112, 0] ![0, 0, 0] ![0, 0, 0] (extractStridedSlice S2x4112x10240 ![0, 0, 6160] (Host.dotGeneral dot_S2x4112x4096_S4096x16400_S2x4112x16400_2_0_01_1_n_n none x w) slices_S2x4112x16400_S2x4112x10240_0_0_6160) (sitofp .f32 (constantI S_ 32 0#32)) pads_S2x4112x10240_S2x4224x10240_000_11200_000 h_S_) shapeCasts_S2x4224x10240_S8448x10240

/-- The reference's result at an index. -/
theorem plain_apply (x : FVec Ideal S2x4112x4096 .f32) (w : FVec Ideal S4096x16400 .f32) (R : Fin 8448) (n : Fin 10240) :
    plain x w (ix2 R n) = if k : R.val / 4224 < 2 ∧ (112 ≤ R.val % 4224 ∧ R.val % 4224 - 112 < 4112) then
        ∑ j, x (ix3 ⟨R.val / 4224, k.1⟩ ⟨R.val % 4224 - 112, k.2.2⟩ j) * w (ix2 j ⟨6160 + n.val, by omega⟩)
      else FloatOps.sitofp (F := Ideal) .f32 (0#32 : BitVec 32) := by
  unfold plain
  pointwise

end Plain

/-- The launch's array is the reference's. -/
theorem same (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 2 Cert.Kernel4Ideal.cfg0.N : FVec Ideal (⟨2, ![8448, 10240]⟩ : Shape) .f32)
      = plain (argX m c) (argW m c) := by
  funext i
  obtain ⟨R, n, rfl⟩ : ∃ (R : Fin 8448) (n : Fin 10240), i = ix2 R n :=
    ⟨i 0, i 1, by funext a; match a with | ⟨0, _⟩ => rfl | ⟨1, _⟩ => rfl⟩
  exact (result m c R n).trans ((Rows.sum_row (argX m c) R _).trans (plain_apply _ _ R n).symm)

end Cert.Proof.Gates
-- ==== Proof.Down.lean ====
module

public import proofs.«01_k».proof.Proof.Rows
public import proofs.«01_k».proof.Proof.Gen.Kernel5Ideal.Value
public import proofs.«01_k».proof.Proof.Gen.Reference5Ideal.Run
public import Idealize.ShloMosaic.Lib.StableHlo.ReadAt
public import Idealize.ShloMosaic.Lib.Claim

@[expose] public section

/-! The down projection: each grid point's block is the product of its row block with its column block, so that the launch's
array is the reference's product behind the padding. -/

open Idealize.ShloMosaic Idealize.ShloMosaic.TcCoe Idealize.ShloMosaic.Tactic Idealize.SL.Sem

namespace Cert.Proof.Down

section Launch

open Cert.Kernel5Ideal Cert.Kernel5Ideal.Gen

variable (m : (ℓ : Loc nD τ sig) → Buf (Elt Ideal) ℓ) (c : Dev nD)

/-- The block indices of the windows, decided over the points. -/
theorem index : ∀ t : Fin cfg0.N,
    win0_0.index t = ![t.val / 8, 0] ∧ win0_1.index t = ![0, t.val % 8] ∧ win0_2.index t = ![t.val / 8, t.val % 8] :=
  (by decide +kernel : ∀ t : Fin grid0.N,
    win0_0.index t = ![t.val / 8, 0] ∧ win0_1.index t = ![0, t.val % 8] ∧ win0_2.index t = ![t.val / 8, t.val % 8])

theorem lt (t : Fin cfg0.N) : t.val < 96 := lt_of_lt_of_eq t.isLt N_0

/-- A block of the product. -/
theorem block_apply (x : FVec Ideal S704x11008 .bf16) (w : FVec Ideal S11008x512 .bf16) (r : Fin 704) (n : Fin 512) :
    (k0_pay1 (F := Ideal) x w (ix2 r n) : EReal) = ∑ k, (x (ix2 r k) : EReal) * (w (ix2 k n) : EReal) := by
  unfold k0_pay1
  pointwise

/-- A point's rows. -/
theorem rows (t : Fin cfg0.N) (r : Fin 704) (k : Fin 11008) :
    (iblk m c 0 t : FVec Ideal S704x11008 .bf16) (ix2 r k)
      = (V m c main_v2 : FVec Ideal S8448x11008 .bf16) (ix2 ⟨t.val / 8 * 704 + r.val, by have := lt t; omega⟩ k) := by
  have hi := (index t).1
  unfold iblk
  rw [View.read_apply]
  show V m c main_v2 _ = _
  congr 1
  funext a
  apply Fin.ext
  match a with
  | ⟨0, _⟩ => show win0_0.index t 0 * 704 + 1 * r.val = _; rw [hi]; show t.val / 8 * 704 + 1 * r.val = _; rw [one_mul]; first | done | rfl
  | ⟨1, _⟩ => show win0_0.index t 1 * 11008 + 1 * k.val = _; rw [hi]; show 0 * 11008 + 1 * k.val = _; rw [one_mul, zero_mul, zero_add]; rfl

/-- A point's columns of weights. -/
theorem columns (t : Fin cfg0.N) (k : Fin 11008) (n : Fin 512) :
    (iblk m c 1 t : FVec Ideal S11008x512 .bf16) (ix2 k n)
      = (V m c main_v3 : FVec Ideal S11008x4096 .bf16) (ix2 k ⟨t.val % 8 * 512 + n.val, by omega⟩) := by
  have hi := (index t).2.1
  unfold iblk
  rw [View.read_apply]
  show V m c main_v3 _ = _
  congr 1
  funext a
  apply Fin.ext
  match a with
  | ⟨0, _⟩ => show win0_1.index t 0 * 11008 + 1 * k.val = _; rw [hi]; show 0 * 11008 + 1 * k.val = _; rw [one_mul, zero_mul, zero_add]; rfl
  | ⟨1, _⟩ => show win0_1.index t 1 * 512 + 1 * n.val = _; rw [hi]; show t.val % 8 * 512 + 1 * n.val = _; rw [one_mul]; first | done | rfl

/-- What a point leaves in its block. -/
theorem left (x : FVec Ideal S704x11008 .bf16) (w : FVec Ideal S11008x512 .bf16) : out0_2 (F := Ideal) x w = k0_pay1 (F := Ideal) x w := by
  unfold out0_2
  rw [View.canon_unit_zero (by funext a; fin_cases a <;> rfl), View.ld_unit_zero (by funext a; fin_cases a <;> rfl),
    View.ld_unit_zero (by funext a; fin_cases a <;> rfl)]

/-- The result array at an index of a point's block. -/
theorem result_at (t : Fin cfg0.N) (r : Fin 704) (n : Fin 512) :
    @Eq EReal (((dats m 0 c).arrAt 2 cfg0.N : FVec Ideal S8448x4096 .f32)
        (ix2 ⟨t.val / 8 * 704 + r.val, by have := lt t; omega⟩ ⟨t.val % 8 * 512 + n.val, by omega⟩))
      (k0_pay1 (F := Ideal) (iblk m c 0 t) (iblk m c 1 t) (ix2 r n)) := by
  have hi := (index t).2.2
  have h := congrFun ((Value.blocks2 m c t (flush0_2 t)).trans (Value.flushed2 m c t)) (ix2 r n)
  rw [View.read_apply, left] at h
  refine Eq.trans ?_ (h.trans ?_)
  · show (dats m 0 c).arrAt 2 cfg0.N _ = (dats m 0 c).arrAt 2 cfg0.N _
    congr 1
    funext a
    apply Fin.ext
    match a with
    | ⟨0, _⟩ => show _ = win0_2.index t 0 * 704 + 1 * r.val; rw [hi]; show _ = t.val / 8 * 704 + 1 * r.val; rw [one_mul]; first | done | rfl
    | ⟨1, _⟩ => show _ = win0_2.index t 1 * 512 + 1 * n.val; rw [hi]; show _ = t.val % 8 * 512 + 1 * n.val; rw [one_mul]; first | done | rfl
  · rfl

/-- The arguments. -/
noncomputable abbrev argX : FVec Ideal S2x4112x11008 .f32 := m ((c : Thread nD τ).loc main_arg0)
noncomputable abbrev argW : FVec Ideal S11008x4096 .f32 := m ((c : Thread nD τ).loc main_arg1)

theorem padded_rows (R : Fin 8448) (k : Fin 11008) :
    (V m c main_v2 : FVec Ideal S8448x11008 .bf16) (ix2 R k) = Rows.row (argX m c) R k := by
  unfold V
  after_reads_at
  first | done | rfl

theorem weights (k : Fin 11008) (n : Fin 4096) :
    (V m c main_v3 : FVec Ideal S11008x4096 .bf16) (ix2 k n) = argW m c (ix2 k ⟨0 + n.val, by omega⟩) := by
  unfold V
  after_reads_at

/-- The result array, from the arguments. -/
theorem result (R : Fin 8448) (n : Fin 4096) :
    @Eq EReal (((dats m 0 c).arrAt 2 cfg0.N : FVec Ideal S8448x4096 .f32) (ix2 R n))
      (∑ k, Rows.row (argX m c) R k * (argW m c (ix2 k ⟨0 + n.val, by omega⟩) : EReal)) := by
  have ht : R.val / 704 * 8 + n.val / 512 < cfg0.N := lt_of_lt_of_eq (by omega) N_0.symm
  have h := result_at m c ⟨R.val / 704 * 8 + n.val / 512, ht⟩ ⟨R.val % 704, Nat.mod_lt _ (by norm_num)⟩ ⟨n.val % 512, Nat.mod_lt _ (by norm_num)⟩
  rw [block_apply] at h
  refine Eq.trans ?_ (h.trans (Finset.sum_congr rfl fun k _ => ?_))
  · congr 1
    congr 1
    · exact Fin.ext (by show R.val = (R.val / 704 * 8 + n.val / 512) / 8 * 704 + R.val % 704; omega)
    · exact Fin.ext (by show n.val = (R.val / 704 * 8 + n.val / 512) % 8 * 512 + n.val % 512; omega)
  · rw [rows, columns, padded_rows, weights]
    congr 2
    · exact Fin.ext (by show (R.val / 704 * 8 + n.val / 512) / 8 * 704 + R.val % 704 = R.val; omega)
    · congr 1
      exact Fin.ext (by show 0 + ((R.val / 704 * 8 + n.val / 512) % 8 * 512 + n.val % 512) = 0 + n.val; omega)

end Launch

section Plain

open Cert.Reference5Ideal Cert.Reference5Ideal.Gen

/-- The reference's result. -/
noncomputable def plain (x : FVec Ideal S2x4112x11008 .f32) (w : FVec Ideal S11008x4096 .f32) : FVec Ideal S8448x4096 .f32 :=
  shapeCast _ (pad S2x4224x4096 ![0, 112, 0] ![0, 0, 0] ![0, 0, 0] (Host.dotGeneral dot_S2x4112x11008_S11008x4096_S2x4112x4096_2_0_01_1_n_n none x w) (sitofp .f32 (constantI S_ 32 0#32)) pads_S2x4112x4096_S2x4224x4096_000_11200_000 h_S_) shapeCasts_S2x4224x4096_S8448x4096

/-- The reference's result at an index. -/
theorem plain_apply (x : FVec Ideal S2x4112x11008 .f32) (w : FVec Ideal S11008x4096 .f32) (R : Fin 8448) (n : Fin 4096) :
    plain x w (ix2 R n) = if k : R.val / 4224 < 2 ∧ (112 ≤ R.val % 4224 ∧ R.val % 4224 - 112 < 4112) then
        ∑ j, x (ix3 ⟨R.val / 4224, k.1⟩ ⟨R.val % 4224 - 112, k.2.2⟩ j) * w (ix2 j ⟨0 + n.val, by omega⟩)
      else FloatOps.sitofp (F := Ideal) .f32 (0#32 : BitVec 32) := by
  unfold plain
  pointwise

end Plain

/-- The launch's array is the reference's. -/
theorem same (m : (ℓ : Loc Cert.Kernel5Ideal.nD Cert.Kernel5Ideal.τ Cert.Kernel5Ideal.sig) → Buf (Elt Ideal) ℓ) (c : Dev Cert.Kernel5Ideal.nD) :
    ((Cert.Kernel5Ideal.Gen.dats m 0 c).arrAt 2 Cert.Kernel5Ideal.cfg0.N : FVec Ideal (⟨2, ![8448, 4096]⟩ : Shape) .f32)
      = plain (argX m c) (argW m c) := by
  funext i
  obtain ⟨R, n, rfl⟩ : ∃ (R : Fin 8448) (n : Fin 4096), i = ix2 R n :=
    ⟨i 0, i 1, by funext a; match a with | ⟨0, _⟩ => rfl | ⟨1, _⟩ => rfl⟩
  exact (result m c R n).trans ((Rows.sum_row (argX m c) R _).trans (plain_apply _ _ R n).symm)

end Cert.Proof.Down
-- ==== Proof.MixOut.lean ====
module

public import proofs.«01_k».proof.Proof.Rows
public import proofs.«01_k».proof.Proof.Gen.Kernel6Ideal.Value
public import proofs.«01_k».proof.Proof.Gen.Reference6Ideal.Run
public import Idealize.ShloMosaic.Lib.StableHlo.ReadAt
public import Idealize.ShloMosaic.Lib.Claim

@[expose] public section

/-! The mixed values' output projection: each grid point's block is the product of its row block with its column block, so that the launch's
array is the reference's product behind the padding. -/

open Idealize.ShloMosaic Idealize.ShloMosaic.TcCoe Idealize.ShloMosaic.Tactic Idealize.SL.Sem

namespace Cert.Proof.MixOut

section Launch

open Cert.Kernel6Ideal Cert.Kernel6Ideal.Gen

variable (m : (ℓ : Loc nD τ sig) → Buf (Elt Ideal) ℓ) (c : Dev nD)

/-- The block indices of the windows, decided over the points. -/
theorem index : ∀ t : Fin cfg0.N,
    win0_0.index t = ![t.val / 8, 0] ∧ win0_1.index t = ![0, t.val % 8] ∧ win0_2.index t = ![t.val / 8, t.val % 8] :=
  (by decide +kernel : ∀ t : Fin grid0.N,
    win0_0.index t = ![t.val / 8, 0] ∧ win0_1.index t = ![0, t.val % 8] ∧ win0_2.index t = ![t.val / 8, t.val % 8])

theorem lt (t : Fin cfg0.N) : t.val < 48 := lt_of_lt_of_eq t.isLt N_0

/-- A block of the product. -/
theorem block_apply (x : FVec Ideal S1408x4096 .bf16) (w : FVec Ideal S4096x512 .bf16) (r : Fin 1408) (n : Fin 512) :
    (k0_pay1 (F := Ideal) x w (ix2 r n) : EReal) = ∑ k, (x (ix2 r k) : EReal) * (w (ix2 k n) : EReal) := by
  unfold k0_pay1
  pointwise

/-- A point's rows. -/
theorem rows (t : Fin cfg0.N) (r : Fin 1408) (k : Fin 4096) :
    (iblk m c 0 t : FVec Ideal S1408x4096 .bf16) (ix2 r k)
      = (V m c main_v2 : FVec Ideal S8448x4096 .bf16) (ix2 ⟨t.val / 8 * 1408 + r.val, by have := lt t; omega⟩ k) := by
  have hi := (index t).1
  unfold iblk
  rw [View.read_apply]
  show V m c main_v2 _ = _
  congr 1
  funext a
  apply Fin.ext
  match a with
  | ⟨0, _⟩ => show win0_0.index t 0 * 1408 + 1 * r.val = _; rw [hi]; show t.val / 8 * 1408 + 1 * r.val = _; rw [one_mul]; first | done | rfl
  | ⟨1, _⟩ => show win0_0.index t 1 * 4096 + 1 * k.val = _; rw [hi]; show 0 * 4096 + 1 * k.val = _; rw [one_mul, zero_mul, zero_add]; rfl

/-- A point's columns of weights. -/
theorem columns (t : Fin cfg0.N) (k : Fin 4096) (n : Fin 512) :
    (iblk m c 1 t : FVec Ideal S4096x512 .bf16) (ix2 k n)
      = (V m c main_v3 : FVec Ideal S4096x4096 .bf16) (ix2 k ⟨t.val % 8 * 512 + n.val, by omega⟩) := by
  have hi := (index t).2.1
  unfold iblk
  rw [View.read_apply]
  show V m c main_v3 _ = _
  congr 1
  funext a
  apply Fin.ext
  match a with
  | ⟨0, _⟩ => show win0_1.index t 0 * 4096 + 1 * k.val = _; rw [hi]; show 0 * 4096 + 1 * k.val = _; rw [one_mul, zero_mul, zero_add]; rfl
  | ⟨1, _⟩ => show win0_1.index t 1 * 512 + 1 * n.val = _; rw [hi]; show t.val % 8 * 512 + 1 * n.val = _; rw [one_mul]; first | done | rfl

/-- What a point leaves in its block. -/
theorem left (x : FVec Ideal S1408x4096 .bf16) (w : FVec Ideal S4096x512 .bf16) : out0_2 (F := Ideal) x w = k0_pay1 (F := Ideal) x w := by
  unfold out0_2
  rw [View.canon_unit_zero (by funext a; fin_cases a <;> rfl), View.ld_unit_zero (by funext a; fin_cases a <;> rfl),
    View.ld_unit_zero (by funext a; fin_cases a <;> rfl)]

/-- The result array at an index of a point's block. -/
theorem result_at (t : Fin cfg0.N) (r : Fin 1408) (n : Fin 512) :
    @Eq EReal (((dats m 0 c).arrAt 2 cfg0.N : FVec Ideal S8448x4096 .f32)
        (ix2 ⟨t.val / 8 * 1408 + r.val, by have := lt t; omega⟩ ⟨t.val % 8 * 512 + n.val, by omega⟩))
      (k0_pay1 (F := Ideal) (iblk m c 0 t) (iblk m c 1 t) (ix2 r n)) := by
  have hi := (index t).2.2
  have h := congrFun ((Value.blocks2 m c t (flush0_2 t)).trans (Value.flushed2 m c t)) (ix2 r n)
  rw [View.read_apply, left] at h
  refine Eq.trans ?_ (h.trans ?_)
  · show (dats m 0 c).arrAt 2 cfg0.N _ = (dats m 0 c).arrAt 2 cfg0.N _
    congr 1
    funext a
    apply Fin.ext
    match a with
    | ⟨0, _⟩ => show _ = win0_2.index t 0 * 1408 + 1 * r.val; rw [hi]; show _ = t.val / 8 * 1408 + 1 * r.val; rw [one_mul]; first | done | rfl
    | ⟨1, _⟩ => show _ = win0_2.index t 1 * 512 + 1 * n.val; rw [hi]; show _ = t.val % 8 * 512 + 1 * n.val; rw [one_mul]; first | done | rfl
  · rfl

/-- The arguments. -/
noncomputable abbrev argX : FVec Ideal S2x4112x4096 .f32 := m ((c : Thread nD τ).loc main_arg0)
noncomputable abbrev argW : FVec Ideal S4096x4096 .f32 := m ((c : Thread nD τ).loc main_arg1)

theorem padded_rows (R : Fin 8448) (k : Fin 4096) :
    (V m c main_v2 : FVec Ideal S8448x4096 .bf16) (ix2 R k) = Rows.row (argX m c) R k := by
  unfold V
  after_reads_at
  first | done | rfl

theorem weights (k : Fin 4096) (n : Fin 4096) :
    (V m c main_v3 : FVec Ideal S4096x4096 .bf16) (ix2 k n) = argW m c (ix2 k ⟨0 + n.val, by omega⟩) := by
  unfold V
  after_reads_at

/-- The result array, from the arguments. -/
theorem result (R : Fin 8448) (n : Fin 4096) :
    @Eq EReal (((dats m 0 c).arrAt 2 cfg0.N : FVec Ideal S8448x4096 .f32) (ix2 R n))
      (∑ k, Rows.row (argX m c) R k * (argW m c (ix2 k ⟨0 + n.val, by omega⟩) : EReal)) := by
  have ht : R.val / 1408 * 8 + n.val / 512 < cfg0.N := lt_of_lt_of_eq (by omega) N_0.symm
  have h := result_at m c ⟨R.val / 1408 * 8 + n.val / 512, ht⟩ ⟨R.val % 1408, Nat.mod_lt _ (by norm_num)⟩ ⟨n.val % 512, Nat.mod_lt _ (by norm_num)⟩
  rw [block_apply] at h
  refine Eq.trans ?_ (h.trans (Finset.sum_congr rfl fun k _ => ?_))
  · congr 1
    congr 1
    · exact Fin.ext (by show R.val = (R.val / 1408 * 8 + n.val / 512) / 8 * 1408 + R.val % 1408; omega)
    · exact Fin.ext (by show n.val = (R.val / 1408 * 8 + n.val / 512) % 8 * 512 + n.val % 512; omega)
  · rw [rows, columns, padded_rows, weights]
    congr 2
    · exact Fin.ext (by show (R.val / 1408 * 8 + n.val / 512) / 8 * 1408 + R.val % 1408 = R.val; omega)
    · congr 1
      exact Fin.ext (by show 0 + ((R.val / 1408 * 8 + n.val / 512) % 8 * 512 + n.val % 512) = 0 + n.val; omega)

end Launch

section Plain

open Cert.Reference6Ideal Cert.Reference6Ideal.Gen

/-- The reference's result. -/
noncomputable def plain (x : FVec Ideal S2x4112x4096 .f32) (w : FVec Ideal S4096x4096 .f32) : FVec Ideal S8448x4096 .f32 :=
  shapeCast _ (pad S2x4224x4096 ![0, 112, 0] ![0, 0, 0] ![0, 0, 0] (Host.dotGeneral dot_S2x4112x4096_S4096x4096_S2x4112x4096_2_0_01_1_n_n none x w) (sitofp .f32 (constantI S_ 32 0#32)) pads_S2x4112x4096_S2x4224x4096_000_11200_000 h_S_) shapeCasts_S2x4224x4096_S8448x4096

/-- The reference's result at an index. -/
theorem plain_apply (x : FVec Ideal S2x4112x4096 .f32) (w : FVec Ideal S4096x4096 .f32) (R : Fin 8448) (n : Fin 4096) :
    plain x w (ix2 R n) = if k : R.val / 4224 < 2 ∧ (112 ≤ R.val % 4224 ∧ R.val % 4224 - 112 < 4112) then
        ∑ j, x (ix3 ⟨R.val / 4224, k.1⟩ ⟨R.val % 4224 - 112, k.2.2⟩ j) * w (ix2 j ⟨0 + n.val, by omega⟩)
      else FloatOps.sitofp (F := Ideal) .f32 (0#32 : BitVec 32) := by
  unfold plain
  pointwise

end Plain

/-- The launch's array is the reference's. -/
theorem same (m : (ℓ : Loc Cert.Kernel6Ideal.nD Cert.Kernel6Ideal.τ Cert.Kernel6Ideal.sig) → Buf (Elt Ideal) ℓ) (c : Dev Cert.Kernel6Ideal.nD) :
    ((Cert.Kernel6Ideal.Gen.dats m 0 c).arrAt 2 Cert.Kernel6Ideal.cfg0.N : FVec Ideal (⟨2, ![8448, 4096]⟩ : Shape) .f32)
      = plain (argX m c) (argW m c) := by
  funext i
  obtain ⟨R, n, rfl⟩ : ∃ (R : Fin 8448) (n : Fin 4096), i = ix2 R n :=
    ⟨i 0, i 1, by funext a; match a with | ⟨0, _⟩ => rfl | ⟨1, _⟩ => rfl⟩
  exact (result m c R n).trans ((Rows.sum_row (argX m c) R _).trans (plain_apply _ _ R n).symm)

end Cert.Proof.MixOut
-- ==== Proof.FfnRunAIdeal.lean ====
module

public import proofs.«01_k».proof.Proof.Gen.Kernel2Ideal.Skeleton
public import proofs.«01_k».proof.Proof.Gen.Kernel2Ideal.Frame

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point of the first row of tiles, over scratch contents `xs`: the pieces it stores. -/
noncomputable def runA (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : k0_cond1 i = 1#1)
    (x0 : Vec F S1408x4096 .bf16) (x1 : Vec F S4096x256 .bf16) (x2 : Vec F S4096x256 .bf16) (x3 : Vec F S3x256 .f32) (x4 : Vec F S1x256 .f32) (xs : Vec F S43x8x256 .f32) :
    Σ' (L5 : List (View.Piece (Elt F) S1408x256 .bf16)), Σ' (L6 : List (View.Piece (Elt F) S1x8x256 .f32)), { LS : List (View.Piece (Elt F) S43x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ arg9.view.loc (c : Thread nD τ) ↦[arg9.view.set]{fullShare} arg9.view.writes (Elt F) (harg9.unread xs) LS) -∗ K ⟨⟩))
          ⊢ wp frame (wpE (defs₀ (F := F)) Variants.none c none) E (cc0_ffn_gu_prompt i arg2 harg2 arg3 harg3 arg4 harg4 arg5 harg5 arg6 harg6 arg7 harg7 arg8 harg8 arg9 harg9) K } := by
  refine ⟨?_, ?_, ?_, fun E K => ?run⟩
  case run =>
    simp only [cc0_ffn_gu_prompt_eq_skeleton]; unfold cc0_ffn_gu_prompt_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexact HS

end Cert.Kernel2Ideal.Gen

end
-- ==== Proof.FfnRunBIdeal.lean ====
module

public import proofs.«01_k».proof.Proof.FfnRunAIdeal

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a point of a later row of tiles, over scratch contents `xs`: the pieces it stores. -/
noncomputable def runB (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : ¬ k0_cond1 i = 1#1)
    (x0 : Vec F S1408x4096 .bf16) (x1 : Vec F S4096x256 .bf16) (x2 : Vec F S4096x256 .bf16) (x3 : Vec F S3x256 .f32) (x4 : Vec F S1x256 .f32) (xs : Vec F S43x8x256 .f32) :
    Σ' (L5 : List (View.Piece (Elt F) S1408x256 .bf16)), Σ' (L6 : List (View.Piece (Elt F) S1x8x256 .f32)), { LS : List (View.Piece (Elt F) S43x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ arg9.view.loc (c : Thread nD τ) ↦[arg9.view.set]{fullShare} arg9.view.writes (Elt F) (harg9.unread xs) LS) -∗ K ⟨⟩))
          ⊢ wp frame (wpE (defs₀ (F := F)) Variants.none c none) E (cc0_ffn_gu_prompt i arg2 harg2 arg3 harg3 arg4 harg4 arg5 harg5 arg6 harg6 arg7 harg7 arg8 harg8 arg9 harg9) K } := by
  refine ⟨?_, ?_, ?_, fun E K => ?run⟩
  case run =>
    simp only [cc0_ffn_gu_prompt_eq_skeleton]; unfold cc0_ffn_gu_prompt_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexact HS

end Cert.Kernel2Ideal.Gen

end
-- ==== Proof.FfnPiecesIdeal.lean ====
module

public import proofs.«01_k».proof.Proof.FfnRunBIdeal
public import Idealize.ShloMosaic.Lib.VecWindow
public import Idealize.ShloMosaic.Lib.Pipeline.ValueKit.Acc

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window holds after a point whose tile the rows `tail` come before. -/
def ffnOut (x0 : Vec F S1408x4096 .bf16) (x1 x2 : Vec F S4096x256 .bf16) (x3 : Vec F S3x256 .f32) (x4 : Vec F S1x256 .f32) (tail : Vec F S1x8x256 .f32) : Vec F S1408x256 .bf16 :=
  k0_pay13 (k0_pay2 x0 x1) (k0_pay3 x0 x2) (k0_pay6 x0 x1 tail) (k0_pay7 x0 x1) (k0_pay8 tail) k0_pay9 x3 x4

/-- The rows of the scratch a point at column tile `i 1` uses. -/
abbrev scRect (i : grid0.Coords) : Rect S43x8x256 := Rect.unit (s := S43x8x256) (k0_off2 i) S1x8x256.size (k0_off2_inb i)

set_option maxHeartbeats 1000000 in
theorem readCov_same {Val : EltTy → Type} [∀ e, Nonempty (Val e)] {sh : Shape} {e : EltTy} (v : View sig .tc .vmem sh e) (off off' size : Fin sh.rank → ℕ) (inb : ∀ a, off a + size a ≤ sh.size a) (inb' : ∀ a, off' a + size a ≤ sh.size a) (h : off = off')
    (w : (Rect.unit off size inb).shape.Idx → Val e) :
    v.readCov [(⟨Rect.unit off size inb, w⟩ : View.Piece Val sh e)] (Rect.unit off' size inb').toLoadRect = w := by
  subst h
  exact View.readCov_cons_toLoadRect v (Rect.unit off size inb) w []

theorem off_eq (i : grid0.Coords) : k0_off1 i = k0_off2 i := rfl

set_option maxHeartbeats 1000000 in
theorem fill_read (c : Dev nD) (i : grid0.Coords) (arg9 : Memref sig .tc .vmem S43x8x256 .f32) (hc0 : k0_cond1 i = 1#1) :
    runA.sl.v12 (F := F) c i arg9 hc0 = k0_pay4 (F := F) := by
  unfold runA.sl.v12 runA.sl.HS_1
  apply readCov_same
  exact off_eq i

set_option maxHeartbeats 1000000 in
theorem outA (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) (f) :
    arg7.view.read (Elt F) (arg7.view.writes (Elt F) f (runA c i arg2 harg2 arg3 harg3 arg4 harg4 arg5 harg5 arg6 harg6 arg7 harg7 arg8 harg8 arg9 harg9 hc0 x0 x1 x2 x3 x4 xs).1) = ffnOut x0 x1 x2 x3 x4 (k0_pay4 (F := F)) := by
  unfold runA; dsimp only
  rw [View.read_writes_full]
  unfold ffnOut
  simp only [runA.sl.r, runA.sl.r_1, runA.sl.r_2, runA.sl.r_3, runA.sl.r_4, fill_read]
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [View.readAt_eq_ld, harg2.read_unread, harg3.read_unread, harg4.read_unread, harg5.read_unread, harg6.read_unread, harg9.read_unread, e0, e1, e2, e3, e4]

set_option maxHeartbeats 1000000 in
theorem tailsA (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) (f) :
    arg8.view.read (Elt F) (arg8.view.writes (Elt F) f (runA c i arg2 harg2 arg3 harg3 arg4 harg4 arg5 harg5 arg6 harg6 arg7 harg7 arg8 harg8 arg9 harg9 hc0 x0 x1 x2 x3 x4 xs).2.1) = k0_pay12 (k0_pay2 x0 x1) := by
  unfold runA; dsimp only
  rw [View.read_writes_full]
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [runA.sl.r, View.readAt_eq_ld, harg2.read_unread, harg3.read_unread, harg4.read_unread, harg5.read_unread, harg6.read_unread, harg9.read_unread, e0, e1]

set_option maxHeartbeats 1000000 in
theorem piecesA (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) :
    (runA c i arg2 harg2 arg3 harg3 arg4 harg4 arg5 harg5 arg6 harg6 arg7 harg7 arg8 harg8 arg9 harg9 hc0 x0 x1 x2 x3 x4 xs).2.2.1 = [⟨scRect i, k0_pay11 (k0_pay2 x0 x1)⟩, ⟨scRect i, k0_pay4 (F := F)⟩] := by
  unfold runA; dsimp only
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [runA.sl.r, View.readAt_eq_ld, harg2.read_unread, harg3.read_unread, harg4.read_unread, harg5.read_unread, harg6.read_unread, harg9.read_unread, e0, e1]
  try rfl

set_option maxHeartbeats 1000000 in
theorem outB (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : ¬ k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) (f) :
    arg7.view.read (Elt F) (arg7.view.writes (Elt F) f (runB c i arg2 harg2 arg3 harg3 arg4 harg4 arg5 harg5 arg6 harg6 arg7 harg7 arg8 harg8 arg9 harg9 hc0 x0 x1 x2 x3 x4 xs).1) = ffnOut x0 x1 x2 x3 x4 (View.ld xs (scRect i)) := by
  unfold runB; dsimp only
  rw [View.read_writes_full]
  unfold ffnOut
  simp only [runB.sl.r, runB.sl.r_1, runB.sl.r_2, runB.sl.r_3, runB.sl.r_4]
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [View.readAt_eq_ld, harg2.read_unread, harg3.read_unread, harg4.read_unread, harg5.read_unread, harg6.read_unread, harg9.read_unread, e0, e1, e2, e3, e4]

set_option maxHeartbeats 1000000 in
theorem tailsB (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : ¬ k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) (f) :
    arg8.view.read (Elt F) (arg8.view.writes (Elt F) f (runB c i arg2 harg2 arg3 harg3 arg4 harg4 arg5 harg5 arg6 harg6 arg7 harg7 arg8 harg8 arg9 harg9 hc0 x0 x1 x2 x3 x4 xs).2.1) = k0_pay12 (k0_pay2 x0 x1) := by
  unfold runB; dsimp only
  rw [View.read_writes_full]
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [runB.sl.r, View.readAt_eq_ld, harg2.read_unread, harg3.read_unread, harg4.read_unread, harg5.read_unread, harg6.read_unread, harg9.read_unread, e0, e1]

set_option maxHeartbeats 1000000 in
theorem piecesB (c : Dev nD) (i : grid0.Coords) (arg2 : Memref sig .tc .vmem S1408x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S1x256 .f32) (harg6 : arg6.IsWhole) (arg7 : Memref sig .tc .vmem S1408x256 .bf16) (harg7 : arg7.IsWhole) (arg8 : Memref sig .tc .vmem S1x8x256 .f32) (harg8 : arg8.IsWhole) (arg9 : Memref sig .tc .vmem S43x8x256 .f32) (harg9 : arg9.IsWhole) (hc0 : ¬ k0_cond1 i = 1#1) (x0 : Vec F S1408x4096 .bf16) (x1 : Vec F S4096x256 .bf16) (x2 : Vec F S4096x256 .bf16) (x3 : Vec F S3x256 .f32) (x4 : Vec F S1x256 .f32) (xs : Vec F S43x8x256 .f32) :
    (runB c i arg2 harg2 arg3 harg3 arg4 harg4 arg5 harg5 arg6 harg6 arg7 harg7 arg8 harg8 arg9 harg9 hc0 x0 x1 x2 x3 x4 xs).2.2.1 = [⟨scRect i, k0_pay11 (k0_pay2 x0 x1)⟩] := by
  unfold runB; dsimp only
  have e0 : ∀ inb, View.ld x0 (Rect.unit (s := S1408x4096) ![0, 0] (S1408x4096.size : Fin S1408x4096.rank → ℕ) inb) = x0 := fun inb => View.ld_unit_lit' inb x0 (by decide)
  have e1 : ∀ inb, View.ld x1 (Rect.unit (s := S4096x256) ![0, 0] (S4096x256.size : Fin S4096x256.rank → ℕ) inb) = x1 := fun inb => View.ld_unit_lit' inb x1 (by decide)
  have e2 : ∀ inb, View.ld x2 (Rect.unit (s := S4096x256) ![0, 0] (S4096x256.size : Fin S4096x256.rank → ℕ) inb) = x2 := fun inb => View.ld_unit_lit' inb x2 (by decide)
  have e3 : ∀ inb, View.ld x3 (Rect.unit (s := S3x256) ![0, 0] (S3x256.size : Fin S3x256.rank → ℕ) inb) = x3 := fun inb => View.ld_unit_lit' inb x3 (by decide)
  have e4 : ∀ inb, View.ld x4 (Rect.unit (s := S1x256) ![0, 0] (S1x256.size : Fin S1x256.rank → ℕ) inb) = x4 := fun inb => View.ld_unit_lit' inb x4 (by decide)
  dsimp only at e0 e1 e2 e3 e4
  simp only [runB.sl.r, View.readAt_eq_ld, harg2.read_unread, harg3.read_unread, harg4.read_unread, harg5.read_unread, harg6.read_unread, harg9.read_unread, e0, e1]
  try rfl

end Cert.Kernel2Ideal.Gen

end
-- ==== Proof.FfnFrameIdeal.lean ====
module

public import proofs.«01_k».proof.Proof.FfnPiecesIdeal
public import Idealize.ShloMosaic.Lib.WritesUnit
public import Idealize.ShloMosaic.Lib.Claim
public import Idealize.ShloMosaic.Lib.Pipeline.ValueKit.Tiles

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1408x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1408x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x256 .f32 := win0_6.stage (cfg0.slots t 6)
abbrev hs0_6 (t : Fin cfg0.N) : (ms0_6 t).IsWhole := hstage0_6 ((cfg0.slots t 6).cast nbuf0_6)
/-- The scratch that carries each column tile's last rows from one row tile to the next. -/
abbrev scM0_0 : Memref sig .tc .vmem S43x8x256 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The first row of tiles is the first 43 points. -/
theorem hcond0 : ∀ t : Fin cfg0.N, k0_cond1 (grid0.coords t) = 1#1 ↔ t.val < 43 :=
  (fun t => by
    have ht : t.val < 258 := Nat.lt_of_lt_of_eq t.isLt N_0
    have e0 : (grid0.coords t 0).val = t.val / 43 % 6 := Pipeline.Grid.coords_val t 0 (by decide) rfl
    simp only [k0_cond1, e0]
    word_cmp
   : ∀ t : Fin grid0.N, k0_cond1 (grid0.coords t) = 1#1 ↔ t.val < 43)

theorem off2_eq : ∀ t : Fin cfg0.N, k0_off2 (grid0.coords t) = ![t.val % 43, 0, 0] :=
  (fun t => by
    have ht : t.val < 258 := Nat.lt_of_lt_of_eq t.isLt N_0
    have e1 : (grid0.coords t 1).val = t.val / 1 % 43 := Pipeline.Grid.coords_val t 1 (by decide) rfl
    have h : ∀ n : ℕ, n < 43 → (Scalar.indexCast (BitVec.ofNat 32 n) : Index).toNat = n := by decide
    unfold k0_off2
    dsimp only
    rw [h _ (grid0.coords t 1).isLt, e1, Nat.div_one]
   : ∀ t : Fin grid0.N, k0_off2 (grid0.coords t) = ![t.val % 43, 0, 0])

/-! ## What each point leaves -/

/-- The product of point `n`'s rows with its gate columns. -/
def actAt (c : Dev nD) (n : ℕ) (h : n < cfg0.N) : FVec F S1408x256 .f32 := k0_pay2 (iblk m c 0 ⟨n, h⟩) (iblk m c 1 ⟨n, h⟩)

/-- Its last rows, as the scratch keeps them. -/
def lastRows (c : Dev nD) (n : ℕ) (h : n < cfg0.N) : Vec F S1x8x256 .f32 := k0_pay11 (actAt m c n h)

/-- The rows before point `n`'s tile: zeros for the first row of tiles, else the last rows of the tile above. -/
def tailAt (c : Dev nD) (n : ℕ) (h : n < cfg0.N) : Vec F S1x8x256 .f32 :=
  if n < 43 then k0_pay4 (F := F) else lastRows m c (n - 43) (by omega)

def outG (c : Dev nD) (t : Fin cfg0.N) : Vec F S1408x256 .bf16 :=
  ffnOut (iblk m c 0 t) (iblk m c 1 t) (iblk m c 2 t) (iblk m c 3 t) (iblk m c 4 t) (tailAt m c t.val t.isLt)

def outT (c : Dev nD) (t : Fin cfg0.N) : Vec F S1x8x256 .f32 := k0_pay12 (actAt m c t.val t.isLt)

/-- What is known of the scratch before point `n`: each of the last 43 points' last rows are in its column tile's row. -/
def Good (c : Dev nD) (n : ℕ) (s : Vec F S43x8x256 .f32) : Prop :=
  ∀ p (h : p < cfg0.N), p < n → n ≤ p + 43 → ∀ (y : S43x8x256.Idx) (x : S1x8x256.Idx),
    (y 0).val = p % 43 → (y 1).val = (x 1).val → (y 2).val = (x 2).val → s y = lastRows m c p h x

theorem good_zero (c : Dev nD) (s : Vec F S43x8x256 .f32) : Good m c 0 s := fun p h hp => absurd hp (by omega)

/-- The row the point reads is what the tile above left. -/
theorem good_read (c : Dev nD) (t : Fin cfg0.N) (ht : ¬ t.val < 43) (s : Vec F S43x8x256 .f32) (hs : Good m c t.val s) :
    View.ld s (scRect (grid0.coords t)) = tailAt m c t.val t.isLt := by
  have hN : t.val < 258 := Nat.lt_of_lt_of_eq t.isLt N_0
  unfold tailAt; rw [if_neg ht]
  funext x
  have hx0 : (x 0).val = 0 := Nat.lt_one_iff.mp (x 0).isLt
  have e := off2_eq t
  refine hs (t.val - 43) _ (by omega) (by omega) _ x ?_ ?_ ?_
  · refine (Rect.idx_unit_val _ _ _ x 0).trans ((congrArg (· + (x 0).val) (congrFun e 0)).trans ?_)
    show t.val % 43 + (x 0).val = _; omega
  · refine (Rect.idx_unit_val _ _ _ x 1).trans ((congrArg (· + (x 1).val) (congrFun e 1)).trans ?_)
    show 0 + (x 1).val = _; omega
  · refine (Rect.idx_unit_val _ _ _ x 2).trans ((congrArg (· + (x 2).val) (congrFun e 2)).trans ?_)
    show 0 + (x 2).val = _; omega

/-- After the point's stores the scratch is known for one point more. -/
theorem good_step (c : Dev nD) (t : Fin cfg0.N) (s : Vec F S43x8x256 .f32) (hs : Good m c t.val s)
    (v : View sig .tc .vmem S43x8x256 .f32) (f : v.ty.Contents (Elt F)) (hf : v.read (Elt F) f = s)
    (L : List (View.Piece (Elt F) S43x8x256 .f32)) (hL : L = [] ∨ ∃ w, L = [(⟨scRect (grid0.coords t), w⟩ : View.Piece (Elt F) S43x8x256 .f32)]) :
    Good m c (t.val + 1) (v.read (Elt F) (v.writes (Elt F) f ((⟨scRect (grid0.coords t), lastRows m c t.val t.isLt⟩ : View.Piece (Elt F) S43x8x256 .f32) :: L))) := by
  have hN : t.val < 258 := Nat.lt_of_lt_of_eq t.isLt N_0
  intro p h hp hp' y x h0 h1 h2
  have hx0 : (x 0).val = 0 := Nat.lt_one_iff.mp (x 0).isLt
  by_cases hpt : p = t.val
  · subst hpt
    refine View.read_writes_cons_unit_of_mem v f _ _ _ y x (off2_eq t) ?_
    intro a
    fin_cases a
    · show (y 0).val = t.val % 43 + (x 0).val; omega
    · show (y 1).val = 0 + (x 1).val; omega
    · show (y 2).val = 0 + (x 2).val; omega
  · have hne : (y 0).val ≠ t.val % 43 := by omega
    have hcut : (y 0).val < t.val % 43 ∨ t.val % 43 + 1 ≤ (y 0).val := by omega
    rw [View.read_writes_cons_unit_of_not_mem (size := S1x8x256.size) v f _ _ _ y (off2_eq t) 0 (by exact hcut)]
    have key : v.read (Elt F) (v.writes (Elt F) f L) y = s y := by
      rcases hL with rfl | ⟨w, rfl⟩
      · rw [← hf]; rfl
      · rw [View.read_writes_cons_unit_of_not_mem (size := S1x8x256.size) v f _ _ _ y (off2_eq t) 0 (by exact hcut), ← hf]; rfl
    rw [key]
    exact hs p h (by omega) (by omega) y x h0 h1 h2

/-- The invariant before point `n`. -/
def PhiS (c : Dev nD) (n : ℕ) : sProp 𝕄 :=
  iprop((∃ s, ⌜Good m c n s⌝ ∗ owns (c : Thread nD τ) scM0_0 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outG m c t
    | ⟨6, _⟩ => outT m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outG m c t := by dsimp only [dats]
theorem after0_6 (c : Dev nD) (t : Fin cfg0.N) : (dats m 0 c).after 6 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) from rfl, show (dats m 0 c).Φ t.castSucc = PhiS m c t.val from rfl]
  unfold PhiS
  by_cases h0 : t.val < 43
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).mpr h0) (iblk m c 0 t) (iblk m c 1 t) (iblk m c 2 t) (iblk m c 3 t) (iblk m c 4 t) s).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, HS⟩
    isplitl [HS Hg]
    · isplitl [HS]
      · iexists (scM0_0.view.read (Elt F) (scM0_0.view.writes (Elt F) ((Memref.isWhole_whole cc0_scratch0).unread s) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).mpr h0) (iblk m c 0 t) (iblk m c 1 t) (iblk m c 2 t) (iblk m c 3 t) (iblk m c 4 t) s).2.2.1))
        isplitr
        · ipureintro
          rw [piecesA]
          exact good_step m c t s hs scM0_0.view _ ((Memref.isWhole_whole cc0_scratch0).read_unread s) _ (.inr ⟨_, rfl⟩)
        · unfold owns; iexists _; isplitr
          swap; · iexact HS
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      refine (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).mpr h0) (iblk m c 0 t) (iblk m c 1 t) (iblk m c 2 t) (iblk m c 3 t) (iblk m c 4 t) s e5).trans ?_
      unfold outG
      rw [show tailAt m c t.val t.isLt = k0_pay4 (F := F) from if_pos h0]
    unfold owns; iexists _; isplitr
    swap; · iexact H6
    ipureintro
    exact tailsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).mpr h0) (iblk m c 0 t) (iblk m c 1 t) (iblk m c 2 t) (iblk m c 3 t) (iblk m c 4 t) s e6
  · iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).mp h)) (iblk m c 0 t) (iblk m c 1 t) (iblk m c 2 t) (iblk m c 3 t) (iblk m c 4 t) s).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, HS⟩
    isplitl [HS Hg]
    · isplitl [HS]
      · iexists (scM0_0.view.read (Elt F) (scM0_0.view.writes (Elt F) ((Memref.isWhole_whole cc0_scratch0).unread s) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).mp h)) (iblk m c 0 t) (iblk m c 1 t) (iblk m c 2 t) (iblk m c 3 t) (iblk m c 4 t) s).2.2.1))
        isplitr
        · ipureintro
          rw [piecesB]
          exact good_step m c t s hs scM0_0.view _ ((Memref.isWhole_whole cc0_scratch0).read_unread s) _ (.inl rfl)
        · unfold owns; iexists _; isplitr
          swap; · iexact HS
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      refine (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).mp h)) (iblk m c 0 t) (iblk m c 1 t) (iblk m c 2 t) (iblk m c 3 t) (iblk m c 4 t) s e5).trans ?_
      unfold outG
      rw [good_read m c t h0 s hs]
    unfold owns; iexists _; isplitr
    swap; · iexact H6
    ipureintro
    exact tailsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0 t).mp h)) (iblk m c 0 t) (iblk m c 1 t) (iblk m c 2 t) (iblk m c 3 t) (iblk m c 4 t) s e6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d
    isplitr
    · ipureintro; exact good_zero m c d
    iexact HS
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%s, %hs, HS⟩, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) (outG m c t) := by
  show (cfg0.win 5).cut (grid0.coords t) ((dats m 0 c).after 5 t) = _
  rw [after0_5]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote back. -/
theorem blocks5 (c : Dev nD) (t : Fin cfg0.N) :
    ((cfg0.win 5).blk t).view.read (Elt F) ((dats m 0 c).arrAt 5 cfg0.N) = (dats m 0 c).flushed 5 t :=
  (dats m 0 c).read_blk_arrAt_eq_flushed 5 disjoint5 cfg0.N t t.isLt (flush0_5 t)

theorem flushed6 (c : Dev nD) (t : Fin cfg0.N) :
    (dats m 0 c).flushed 6 t = (cfg0.win 6).cut (grid0.coords t) (outT m c t) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array is what point `t` wrote back. -/
theorem blocks6 (c : Dev nD) (t : Fin cfg0.N) :
    ((cfg0.win 6).blk t).view.read (Elt F) ((dats m 0 c).arrAt 6 cfg0.N) = (dats m 0 c).flushed 6 t :=
  (dats m 0 c).read_blk_arrAt_eq_flushed 6 disjoint6 cfg0.N t t.isLt (flush0_6 t)

/-- The run with each output array named, the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 5, (h.1 c).1 6, h.2 c⟩)
    (θ_run_and (run_main m ρ) (unchanged m ρ))

end Cert.Kernel2Ideal.Gen

end
-- ==== Proof.FfnBlock.lean ====
module

public import proofs.«01_k».proof.Proof.Rows
public import proofs.«01_k».proof.Proof.Gen.Kernel2Ideal.Skeleton
public import Idealize.ShloMosaic.Lib.Pointwise

@[expose] public section

/-! One tile of the gated activation, at an index. -/

open Idealize.ShloMosaic Idealize.ShloMosaic.TcCoe Idealize.ShloMosaic.Tactic

namespace Cert.Proof.Ffn

open Cert.Kernel2Ideal Cert.Kernel2Ideal.Gen

/-- The activation of the convolved value. -/
noncomputable def gate (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * v * v)))))

theorem sge_one : ∀ r : Fin 1408, IntOp.cmpi .sge (BitVec.ofNat 32 r.val) 1#32 = if 1 ≤ r.val then 1#1 else 0#1 := by decide +kernel
theorem sge_two : ∀ r : Fin 1408, IntOp.cmpi .sge (BitVec.ofNat 32 r.val) 2#32 = if 2 ≤ r.val then 1#1 else 0#1 := by decide +kernel
theorem eq_zero : ∀ r : Fin 1408, IntOp.cmpi .eq (BitVec.ofNat 32 r.val) 0#32 = if r.val = 0 then 1#1 else 0#1 := by decide +kernel

theorem act_apply (x : FVec Ideal S1408x4096 .bf16) (w : FVec Ideal S4096x256 .bf16) (r : Fin 1408) (n : Fin 256) :
    (k0_pay2 (F := Ideal) x w (ix2 r n) : EReal) = ∑ k, (x (ix2 r k) : EReal) * (w (ix2 k n) : EReal) := by
  unfold k0_pay2 k0_pay1
  pointwise

theorem up_apply (x : FVec Ideal S1408x4096 .bf16) (w : FVec Ideal S4096x256 .bf16) (r : Fin 1408) (n : Fin 256) :
    (k0_pay3 (F := Ideal) x w (ix2 r n) : EReal) = ∑ k, (x (ix2 r k) : EReal) * (w (ix2 k n) : EReal) := by
  unfold k0_pay3 k0_pay1
  pointwise

theorem last_apply (a : FVec Ideal S1408x256 .f32) (q : Fin 8) (n : Fin 256) :
    (k0_pay11 (F := Ideal) a (ix3 (0 : Fin 1) q n) : EReal) = a (ix2 ⟨1400 + q.val, by omega⟩ n) := by
  unfold k0_pay11 k0_pay10
  pointwise

theorem tail_apply (a : FVec Ideal S1408x256 .f32) (q : Fin 8) (n : Fin 256) :
    (k0_pay12 (F := Ideal) a (ix3 (0 : Fin 1) q n) : EReal) = a (ix2 ⟨1400 + q.val, by omega⟩ n) := by
  unfold k0_pay12 k0_pay10
  pointwise

theorem mix_apply (a u p1 p2 q2 : FVec Ideal S1408x256 .f32) (b : IVec S1408x256 1) (cw : FVec Ideal S3x256 .f32)
    (cb : FVec Ideal S1x256 .f32) (r : Fin 1408) (n : Fin 256) :
    (k0_pay13 (F := Ideal) a u p1 p2 q2 b cw cb (ix2 r n) : EReal)
      = gate ((cb (ix2 (0 : Fin 1) n) : EReal) + (cw (ix2 (0 : Fin 3) n) : EReal) * (Scalar.select (b (ix2 r n)) (p2 (ix2 r n)) (q2 (ix2 r n)) : EReal)
          + (cw (ix2 (1 : Fin 3) n) : EReal) * (p1 (ix2 r n) : EReal) + (cw (ix2 (2 : Fin 3) n) : EReal) * (a (ix2 r n) : EReal))
        * (u (ix2 r n) : EReal) := by
  unfold k0_pay13 gate
  pointwise

theorem prev1_apply (x : FVec Ideal S1408x4096 .bf16) (w : FVec Ideal S4096x256 .bf16) (z : FVec Ideal S1x8x256 .f32) (r : Fin 1408) (n : Fin 256) :
    (k0_pay6 (F := Ideal) x w z (ix2 r n) : EReal)
      = if h : 1 ≤ r.val then (k0_pay2 (F := Ideal) x w (ix2 ⟨r.val - 1, by omega⟩ n) : EReal) else z (ix3 (0 : Fin 1) (7 : Fin 8) n) := by
  unfold k0_pay6 k0_pay5
  generalize k0_pay2 (F := Ideal) x w = a
  pointwise
  rw [sge_one]
  by_cases h : 1 ≤ r.val
  · rw [if_pos h, dif_pos h]
    show a _ = a _
    exact congrArg a (congrArg (fun q => ix2 q n) (Fin.ext (by show (r.val + 1408 - 1) % 1408 = r.val - 1; have := r.isLt; omega)))
  · rw [if_neg h, dif_neg h]
    rfl

theorem prev2_apply (x : FVec Ideal S1408x4096 .bf16) (w : FVec Ideal S4096x256 .bf16) (r : Fin 1408) (n : Fin 256) (h : 2 ≤ r.val) :
    (k0_pay7 (F := Ideal) x w (ix2 r n) : EReal) = (k0_pay2 (F := Ideal) x w (ix2 ⟨r.val - 2, by omega⟩ n) : EReal) := by
  unfold k0_pay7
  generalize k0_pay2 (F := Ideal) x w = a
  pointwise
  exact congrArg a (congrArg (fun q => ix2 q n) (Fin.ext (by show (r.val + 1408 - 2) % 1408 = r.val - 2; have := r.isLt; omega)))

theorem first_apply (z : FVec Ideal S1x8x256 .f32) (r : Fin 1408) (n : Fin 256) :
    (k0_pay8 (F := Ideal) z (ix2 r n) : EReal)
      = if r.val = 0 then (z (ix3 (0 : Fin 1) (6 : Fin 8) n) : EReal) else z (ix3 (0 : Fin 1) (7 : Fin 8) n) := by
  unfold k0_pay8 k0_pay5
  pointwise
  rw [eq_zero]
  by_cases h : r.val = 0
  · rw [if_pos h, if_pos h]
    rfl
  · rw [if_neg h, if_neg h]
    rfl

theorem deep_apply (r : Fin 1408) (n : Fin 256) : k0_pay9 (ix2 r n) = if 2 ≤ r.val then 1#1 else 0#1 := by
  unfold k0_pay9
  pointwise
  exact sge_two r

end Cert.Proof.Ffn
-- ==== Proof.FfnPlain.lean ====
module

public import proofs.«01_k».proof.Proof.Rows
public import proofs.«01_k».proof.Proof.Gen.Reference2Ideal.Run
public import Idealize.ShloMosaic.Lib.Pointwise

@[expose] public section

/-! The reference's gated activation, at an index. -/

open Idealize.ShloMosaic Idealize.ShloMosaic.TcCoe Idealize.ShloMosaic.Tactic

namespace Cert.Proof.FfnPlain

open Cert.Reference2Ideal Cert.Reference2Ideal.Gen

/-- The activation of the convolved value. -/
noncomputable def gate (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * v * v)))))

/-- The projected rows behind two rows of zeros. -/
noncomputable def ext (x : FVec Ideal S2x4112x4096 .f32) (w : FVec Ideal S4096x11008 .f32) : FVec Ideal S2x4114x11008 .f32 :=
  concatenate S2x4114x11008 1 [⟨S2x2x11008, (broadcastInDim S2x2x11008 ![] bcast_S_S2x2x11008 (constant (F := Ideal) S_ .f32 0x00000000#32))⟩, ⟨S2x4112x11008, (Host.dotGeneral dot_S2x4112x4096_S4096x11008_S2x4112x11008_2_0_01_1_n_n none x w)⟩] concatenates_S2x2x11008_S2x4112x11008_S2x4114x11008_d1

/-- The convolved rows. -/
noncomputable def conv (e : FVec Ideal S2x4114x11008 .f32) (cw : FVec Ideal S3x11008 .f32) (cb : FVec Ideal S11008 .f32) : FVec Ideal S2x4112x11008 .f32 :=
  addf (addf (addf (broadcastInDim S2x4112x11008 ![0, 1, 2] bcast_S1x1x11008_S2x4112x11008_0_1_2 (broadcastInDim S1x1x11008 ![2] bcast_S11008_S1x1x11008_2 cb))
    (mulf (broadcastInDim S2x4112x11008 ![0, 1, 2] bcast_S1x1x11008_S2x4112x11008_0_1_2 (broadcastInDim S1x1x11008 ![2] bcast_S11008_S1x1x11008_2 (shapeCast _ (extractStridedSlice S1x11008 ![0, 0] cw slices_S3x11008_S1x11008_0_0) shapeCasts_S1x11008_S11008))) (extractStridedSlice S2x4112x11008 ![0, 0, 0] e slices_S2x4114x11008_S2x4112x11008_0_0_0)))
    (mulf (broadcastInDim S2x4112x11008 ![0, 1, 2] bcast_S1x1x11008_S2x4112x11008_0_1_2 (broadcastInDim S1x1x11008 ![2] bcast_S11008_S1x1x11008_2 (shapeCast _ (extractStridedSlice S1x11008 ![1, 0] cw slices_S3x11008_S1x11008_1_0) shapeCasts_S1x11008_S11008))) (extractStridedSlice S2x4112x11008 ![0, 1, 0] e slices_S2x4114x11008_S2x4112x11008_0_1_0)))
    (mulf (broadcastInDim S2x4112x11008 ![0, 1, 2] bcast_S1x1x11008_S2x4112x11008_0_1_2 (broadcastInDim S1x1x11008 ![2] bcast_S11008_S1x1x11008_2 (shapeCast _ (extractStridedSlice S1x11008 ![2, 0] cw slices_S3x11008_S1x11008_2_0) shapeCasts_S1x11008_S11008))) (extractStridedSlice S2x4112x11008 ![0, 2, 0] e slices_S2x4114x11008_S2x4112x11008_0_2_0))

/-- The reference's first result, from the convolved rows and the second projection. -/
noncomputable def gated (v u : FVec Ideal S2x4112x11008 .f32) : FVec Ideal S8448x11008 .bf16 :=
  truncf .bf16 (shapeCast _ (pad S2x4224x11008 ![0, 112, 0] ![0, 0, 0] ![0, 0, 0] (mulf (mulf v (mulf (broadcastInDim S2x4112x11008 ![] bcast_S_S2x4112x11008 (constant S_ .f32 0x3F000000#32)) (addf (broadcastInDim S2x4112x11008 ![] bcast_S_S2x4112x11008 (constant S_ .f32 0x3F800000#32)) (Host.tanh (mulf (broadcastInDim S2x4112x11008 ![] bcast_S_S2x4112x11008 (constant S_ .f32 0x3F4C422A#32)) (addf v (mulf (broadcastInDim S2x4112x11008 ![] bcast_S_S2x4112x11008 (constant S_ .f32 0x3D372713#32)) (mulf (mulf v v) v)))))))) u) (sitofp .f32 (constantI S_ 32 0#32)) pads_S2x4112x11008_S2x4224x11008_000_11200_000 h_S_) shapeCasts_S2x4224x11008_S8448x11008) bitsLt_bf16_f32

/-- The reference's second result. -/
noncomputable def tails (e : FVec Ideal S2x4114x11008 .f32) : FVec Ideal S6x8x11008 .f32 :=
  shapeCast _ (pad S2x3x8x11008 ![0, 2, 6, 0] ![0, 0, 0, 0] ![0, 0, 0, 0] (broadcastInDim S2x1x2x11008 ![0, 2, 3] bcast_S2x2x11008_S2x1x2x11008_0_2_3 (extractStridedSlice S2x2x11008 ![0, 4112, 0] e slices_S2x4114x11008_S2x2x11008_0_4112_0)) (sitofp .f32 (constantI S_ 32 0#32)) pads_S2x1x2x11008_S2x3x8x11008_000_200_600_000 h_S_) shapeCasts_S2x3x8x11008_S6x8x11008

theorem ext_low (x : FVec Ideal S2x4112x4096 .f32) (w : FVec Ideal S4096x11008 .f32) (s : Fin 2) (t : Fin 4114) (n : Fin 11008) (h : t.val < 2) :
    (ext x w (ix3 s t n) : EReal) = 0 := by
  unfold ext
  refine (concatenate_pair_apply_left (t := S2x4114x11008) (s₁ := S2x2x11008) (s₂ := S2x4112x11008) (1 : Fin 3) _ _ _ (ix3 s t n) rfl (show S2x2x11008.Idx from ix3 s (⟨t.val, h⟩ : Fin 2) n) (fun b => by
    match b with
    | ⟨0, _⟩ => rfl
    | ⟨1, _⟩ => rfl
    | ⟨2, _⟩ => rfl)).trans ?_
  pointwise

theorem ext_high (x : FVec Ideal S2x4112x4096 .f32) (w : FVec Ideal S4096x11008 .f32) (s : Fin 2) (t : Fin 4114) (n : Fin 11008) (h : 2 ≤ t.val) :
    (ext x w (ix3 s t n) : EReal) = ∑ k, (x (ix3 s ⟨t.val - 2, by omega⟩ k) : EReal) * (w (ix2 k n) : EReal) := by
  unfold ext
  refine (concatenate_pair_apply_right (t := S2x4114x11008) (s₁ := S2x2x11008) (s₂ := S2x4112x11008) (1 : Fin 3) _ _ _ (ix3 s t n) rfl rfl (show S2x4112x11008.Idx from ix3 s (⟨t.val - 2, by omega⟩ : Fin 4112) n) (fun b hb => by
    match b with
    | ⟨0, _⟩ => rfl
    | ⟨1, _⟩ => exact absurd rfl hb
    | ⟨2, _⟩ => rfl) (by show t.val - 2 + 2 = t.val; omega)).trans ?_
  pointwise

theorem conv_apply (e : FVec Ideal S2x4114x11008 .f32) (cw : FVec Ideal S3x11008 .f32) (cb : FVec Ideal S11008 .f32) (s : Fin 2) (t : Fin 4112) (n : Fin 11008) :
    (conv e cw cb (ix3 s t n) : EReal) = (cb (ix1 n) : EReal) + (cw (ix2 (0 : Fin 3) n) : EReal) * (e (ix3 s ⟨t.val, by omega⟩ n) : EReal)
      + (cw (ix2 (1 : Fin 3) n) : EReal) * (e (ix3 s ⟨1 + t.val, by omega⟩ n) : EReal) + (cw (ix2 (2 : Fin 3) n) : EReal) * (e (ix3 s ⟨2 + t.val, by omega⟩ n) : EReal) := by
  unfold conv
  pointwise

theorem gated_apply (v u : FVec Ideal S2x4112x11008 .f32) (R : Fin 8448) (n : Fin 11008) (h : 112 ≤ R.val % 4224) :
    (gated v u (ix2 R n) : EReal) = gate (v (ix3 ⟨R.val / 4224, by omega⟩ ⟨R.val % 4224 - 112, by omega⟩ n))
      * (u (ix3 ⟨R.val / 4224, by omega⟩ ⟨R.val % 4224 - 112, by omega⟩ n) : EReal) := by
  have k : R.val / 4224 < 2 ∧ (112 ≤ R.val % 4224 ∧ R.val % 4224 - 112 < 4112) := by omega
  have e : (gated v u (ix2 R n) : EReal) = if k : R.val / 4224 < 2 ∧ (112 ≤ R.val % 4224 ∧ R.val % 4224 - 112 < 4112) then
        gate (v (ix3 ⟨R.val / 4224, k.1⟩ ⟨R.val % 4224 - 112, k.2.2⟩ n)) * (u (ix3 ⟨R.val / 4224, k.1⟩ ⟨R.val % 4224 - 112, k.2.2⟩ n) : EReal)
      else (FloatOps.sitofp (F := Ideal) .f32 (0#32 : BitVec 32) : EReal) := by
    unfold gated gate
    pointwise
  rw [e, dif_pos k]

/-- The second projection. -/
noncomputable def up (x : FVec Ideal S2x4112x4096 .f32) (w : FVec Ideal S4096x11008 .f32) : FVec Ideal S2x4112x11008 .f32 :=
  Host.dotGeneral (F := Ideal) dot_S2x4112x4096_S4096x11008_S2x4112x11008_2_0_01_1_n_n none x w

theorem up_apply (x : FVec Ideal S2x4112x4096 .f32) (w : FVec Ideal S4096x11008 .f32) (s : Fin 2) (t : Fin 4112) (n : Fin 11008) :
    (up x w (ix3 s t n) : EReal)
      = ∑ k, (x (ix3 s t k) : EReal) * (w (ix2 k n) : EReal) := by
  unfold up
  pointwise

theorem tails_apply (e : FVec Ideal S2x4114x11008 .f32) (T : Fin 6) (q : Fin 8) (n : Fin 11008) (h : T.val % 3 = 2) (h' : 6 ≤ q.val) :
    (tails e (ix3 T q n) : EReal) = e (ix3 (⟨T.val / 3, by omega⟩ : Fin 2) ⟨4112 + (q.val - 6), by omega⟩ n) := by
  unfold tails
  pointwise
  exact dif_pos (by omega)

theorem result0 (m : (ℓ : Loc nD τ sig) → Buf (Elt Ideal) ℓ) (c : Dev nD) :
    Value.res_main_v43 m c = gated (conv (ext (m ((c.tc : Thread nD τ).loc main_arg0)) (m ((c.tc : Thread nD τ).loc main_arg1))) (m ((c.tc : Thread nD τ).loc main_arg3)) (m ((c.tc : Thread nD τ).loc main_arg4)))
      (up (m ((c.tc : Thread nD τ).loc main_arg0)) (m ((c.tc : Thread nD τ).loc main_arg2))) := by
  unfold Value.res_main_v43 gated conv ext up
  rfl

end Cert.Proof.FfnPlain
-- ==== Proof.Ffn.lean ====
module

public import proofs.«01_k».proof.Proof.FfnBlock
public import proofs.«01_k».proof.Proof.FfnPlain
public import proofs.«01_k».proof.Proof.FfnFrameIdeal
public import proofs.«01_k».proof.On_tokens2
public import Idealize.ShloMosaic.Lib.StableHlo.ReadAt
public import Idealize.ShloMosaic.Lib.Claim
public import Idealize.ShloMosaic.PureOps.Ideal.Laws

@[expose] public section

/-! The gated activation: a tile's rows before its first are the last rows of the tile above, so each claimed row of the launch's arrays is the
reference's row behind the padding. -/

open Idealize.ShloMosaic Idealize.ShloMosaic.TcCoe Idealize.ShloMosaic.Tactic Idealize.SL.Sem

namespace Cert.Proof.Ffn

/-- Padded row `R` of an array of rows times column `n` of the weights. -/
noncomputable def proj (x : FVec Ideal (⟨3, ![2, 4112, 4096]⟩ : Shape) .f32) (w : FVec Ideal (⟨2, ![4096, 11008]⟩ : Shape) .f32) (R : ℕ) (n : Fin 11008) : EReal :=
  if h : R < 8448 then ∑ k, Rows.row x ⟨R, h⟩ k * (w (ix2 k n) : EReal) else 0

/-- A claimed row of the result. -/
noncomputable def value (x : FVec Ideal (⟨3, ![2, 4112, 4096]⟩ : Shape) .f32) (w u : FVec Ideal (⟨2, ![4096, 11008]⟩ : Shape) .f32)
    (cw : FVec Ideal (⟨2, ![3, 11008]⟩ : Shape) .f32) (cb : FVec Ideal (⟨1, ![11008]⟩ : Shape) .f32) (R : ℕ) (n : Fin 11008) : EReal :=
  gate ((cb (ix1 n) : EReal) + (cw (ix2 (0 : Fin 3) n) : EReal) * proj x w (R - 2) n + (cw (ix2 (1 : Fin 3) n) : EReal) * proj x w (R - 1) n
    + (cw (ix2 (2 : Fin 3) n) : EReal) * proj x w R n) * proj x u R n

theorem proj_pad (x : FVec Ideal (⟨3, ![2, 4112, 4096]⟩ : Shape) .f32) (w : FVec Ideal (⟨2, ![4096, 11008]⟩ : Shape) .f32) (R : ℕ) (n : Fin 11008)
    (h : R % 4224 < 112) : proj x w R n = 0 := by
  unfold proj
  by_cases k : R < 8448
  · rw [dif_pos k, Rows.sum_row, dif_neg (by show ¬ (R / 4224 < 2 ∧ (112 ≤ R % 4224 ∧ R % 4224 - 112 < 4112)); omega)]
    exact Rows.zero_word
  · rw [dif_neg k]

theorem proj_row (x : FVec Ideal (⟨3, ![2, 4112, 4096]⟩ : Shape) .f32) (w : FVec Ideal (⟨2, ![4096, 11008]⟩ : Shape) .f32) (s : Fin 2) (t : Fin 4112)
    (n : Fin 11008) : proj x w (s.val * 4224 + 112 + t.val) n = ∑ k, (x (ix3 s t k) : EReal) * (w (ix2 k n) : EReal) := by
  have hs := s.isLt
  have ht := t.isLt
  unfold proj
  rw [dif_pos (by omega), Rows.sum_row, dif_pos (by show (s.val * 4224 + 112 + t.val) / 4224 < 2 ∧ (112 ≤ (s.val * 4224 + 112 + t.val) % 4224 ∧ (s.val * 4224 + 112 + t.val) % 4224 - 112 < 4112); omega)]
  refine Finset.sum_congr rfl fun k _ => ?_
  congr 1
  refine congrArg x ?_
  have e1 : (s.val * 4224 + 112 + t.val) / 4224 = s.val := by omega
  have e2 : (s.val * 4224 + 112 + t.val) % 4224 - 112 = t.val := by omega
  funext a
  match a with
  | ⟨0, _⟩ => exact Fin.ext e1
  | ⟨1, _⟩ => exact Fin.ext e2
  | ⟨2, _⟩ => rfl

section Plain

open Cert.Reference2Ideal Cert.Reference2Ideal.Gen

theorem ext_proj (x : FVec Ideal S2x4112x4096 .f32) (w : FVec Ideal S4096x11008 .f32) (s : Fin 2) (t : Fin 4114) (n : Fin 11008) :
    (FfnPlain.ext x w (ix3 s t n) : EReal) = proj x w (s.val * 4224 + 110 + t.val) n := by
  by_cases h : t.val < 2
  · rw [FfnPlain.ext_low x w s t n h, proj_pad x w _ n (by omega)]
  · have e : s.val * 4224 + 110 + t.val = s.val * 4224 + 112 + (⟨t.val - 2, by omega⟩ : Fin 4112).val := by show _ = s.val * 4224 + 112 + (t.val - 2); omega
    rw [e, proj_row, FfnPlain.ext_high x w s t n (by omega)]

/-- The reference's claimed rows. -/
theorem plain_value (x : FVec Ideal S2x4112x4096 .f32) (w u : FVec Ideal S4096x11008 .f32) (cw : FVec Ideal S3x11008 .f32) (cb : FVec Ideal S11008 .f32)
    (R : Fin 8448) (n : Fin 11008) (h : 112 ≤ R.val % 4224) :
    (FfnPlain.gated (FfnPlain.conv (FfnPlain.ext x w) cw cb) (FfnPlain.up x u) (ix2 R n) : EReal) = value x w u cw cb R.val n := by
  have hR := R.isLt
  rw [FfnPlain.gated_apply _ _ R n h, FfnPlain.conv_apply, FfnPlain.up_apply, ← proj_row, ext_proj, ext_proj, ext_proj]
  unfold value
  have d : R.val / 4224 * 4224 + R.val % 4224 = R.val := by omega
  have e0 : R.val / 4224 * 4224 + 112 + (R.val % 4224 - 112) = R.val := by
    generalize R.val / 4224 * 4224 = a at d ⊢
    generalize R.val % 4224 = b at d h ⊢
    omega
  have e1 : R.val / 4224 * 4224 + 110 + (R.val % 4224 - 112) = R.val - 2 := by
    generalize R.val / 4224 * 4224 = a at d ⊢
    generalize R.val % 4224 = b at d h ⊢
    omega
  have e2 : R.val / 4224 * 4224 + 110 + (1 + (R.val % 4224 - 112)) = R.val - 1 := by
    generalize R.val / 4224 * 4224 = a at d ⊢
    generalize R.val % 4224 = b at d h ⊢
    omega
  have e3 : R.val / 4224 * 4224 + 110 + (2 + (R.val % 4224 - 112)) = R.val := by
    generalize R.val / 4224 * 4224 = a at d ⊢
    generalize R.val % 4224 = b at d h ⊢
    omega
  simp only [e0, e1, e2, e3]
  rfl

/-- The reference's claimed last rows. -/
theorem plain_tails (x : FVec Ideal S2x4112x4096 .f32) (w : FVec Ideal S4096x11008 .f32) (T : Fin 6) (q : Fin 8) (n : Fin 11008)
    (h : T.val % 3 = 2) (h' : 6 ≤ q.val) :
    (FfnPlain.tails (FfnPlain.ext x w) (ix3 T q n) : EReal) = proj x w (T.val * 1408 + 1400 + q.val) n := by
  have hT := T.isLt
  have hq := q.isLt
  rw [FfnPlain.tails_apply _ T q n h h', ext_proj]
  have e : T.val / 3 * 4224 + 110 + (4112 + (q.val - 6)) = T.val * 1408 + 1400 + q.val := by omega
  simp only [e]

end Plain

section Launch

open Cert.Kernel2Ideal Cert.Kernel2Ideal.Gen

variable (m : (ℓ : Loc nD τ sig) → Buf (Elt Ideal) ℓ) (c : Dev nD)

/-- The block indices of the windows, decided over the points. -/
theorem index : ∀ t : Fin cfg0.N,
    win0_0.index t = ![t.val / 43, 0] ∧ win0_1.index t = ![0, t.val % 43] ∧ win0_2.index t = ![0, t.val % 43] ∧ win0_3.index t = ![0, t.val % 43]
      ∧ win0_4.index t = ![0, t.val % 43] ∧ win0_5.index t = ![t.val / 43, t.val % 43] ∧ win0_6.index t = ![t.val / 43, 0, t.val % 43] :=
  (by decide +kernel : ∀ t : Fin grid0.N,
    win0_0.index t = ![t.val / 43, 0] ∧ win0_1.index t = ![0, t.val % 43] ∧ win0_2.index t = ![0, t.val % 43] ∧ win0_3.index t = ![0, t.val % 43]
      ∧ win0_4.index t = ![0, t.val % 43] ∧ win0_5.index t = ![t.val / 43, t.val % 43] ∧ win0_6.index t = ![t.val / 43, 0, t.val % 43])

theorem lt (t : Fin cfg0.N) : t.val < 258 := lt_of_lt_of_eq t.isLt N_0

/-- The column of a point's column. -/
abbrev col (t : ℕ) (n : Fin 256) : Fin 11008 := ⟨t % 43 * 256 + n.val, by have := n.isLt; omega⟩

/-- The arguments. -/
noncomputable abbrev argX : FVec Ideal S2x4112x4096 .f32 := m ((c : Thread nD τ).loc main_arg0)
noncomputable abbrev argG : FVec Ideal S4096x11008 .f32 := m ((c : Thread nD τ).loc main_arg1)
noncomputable abbrev argU : FVec Ideal S4096x11008 .f32 := m ((c : Thread nD τ).loc main_arg2)
noncomputable abbrev argW : FVec Ideal S3x11008 .f32 := m ((c : Thread nD τ).loc main_arg3)
noncomputable abbrev argB : FVec Ideal S11008 .f32 := m ((c : Thread nD τ).loc main_arg4)

theorem rows (t : Fin cfg0.N) (r : Fin 1408) (k : Fin 4096) :
    (iblk m c 0 t : FVec Ideal S1408x4096 .bf16) (ix2 r k)
      = (V m c main_v2 : FVec Ideal S8448x4096 .bf16) (ix2 ⟨t.val / 43 * 1408 + r.val, by have := lt t; omega⟩ k) := by
  have hi := (index t).1
  unfold iblk
  rw [View.read_apply]
  show V m c main_v2 _ = _
  congr 1
  funext a
  apply Fin.ext
  match a with
  | ⟨0, _⟩ => show win0_0.index t 0 * 1408 + 1 * r.val = _; rw [hi]; show t.val / 43 * 1408 + 1 * r.val = _; rw [one_mul]; first | done | rfl
  | ⟨1, _⟩ => show win0_0.index t 1 * 4096 + 1 * k.val = _; rw [hi]; show 0 * 4096 + 1 * k.val = _; rw [one_mul, zero_mul, zero_add]; rfl

theorem columns (t : Fin cfg0.N) (k : Fin 4096) (n : Fin 256) :
    (iblk m c 1 t : FVec Ideal S4096x256 .bf16) (ix2 k n)
      = (V m c main_v3 : FVec Ideal S4096x11008 .bf16) (ix2 k (col t.val n)) := by
  have hi := (index t).2.1
  unfold iblk
  rw [View.read_apply]
  show V m c main_v3 _ = _
  congr 1
  funext a
  apply Fin.ext
  match a with
  | ⟨0, _⟩ => show win0_1.index t 0 * 4096 + 1 * k.val = _; rw [hi]; show 0 * 4096 + 1 * k.val = _; rw [one_mul, zero_mul, zero_add]; rfl
  | ⟨1, _⟩ => show win0_1.index t 1 * 256 + 1 * n.val = _; rw [hi]; show t.val % 43 * 256 + 1 * n.val = _; rw [one_mul]; first | done | rfl

theorem columns2 (t : Fin cfg0.N) (k : Fin 4096) (n : Fin 256) :
    (iblk m c 2 t : FVec Ideal S4096x256 .bf16) (ix2 k n)
      = (V m c main_v4 : FVec Ideal S4096x11008 .bf16) (ix2 k (col t.val n)) := by
  have hi := (index t).2.2.1
  unfold iblk
  rw [View.read_apply]
  show V m c main_v4 _ = _
  congr 1
  funext a
  apply Fin.ext
  match a with
  | ⟨0, _⟩ => show win0_2.index t 0 * 4096 + 1 * k.val = _; rw [hi]; show 0 * 4096 + 1 * k.val = _; rw [one_mul, zero_mul, zero_add]; rfl
  | ⟨1, _⟩ => show win0_2.index t 1 * 256 + 1 * n.val = _; rw [hi]; show t.val % 43 * 256 + 1 * n.val = _; rw [one_mul]; first | done | rfl

theorem taps (t : Fin cfg0.N) (k : Fin 3) (n : Fin 256) :
    (iblk m c 3 t : FVec Ideal S3x256 .f32) (ix2 k n)
      = (V m c main_arg3 : FVec Ideal S3x11008 .f32) (ix2 k (col t.val n)) := by
  have hi := (index t).2.2.2.1
  unfold iblk
  rw [View.read_apply]
  show V m c main_arg3 _ = _
  congr 1
  funext a
  apply Fin.ext
  match a with
  | ⟨0, _⟩ => show win0_3.index t 0 * 3 + 1 * k.val = _; rw [hi]; show 0 * 3 + 1 * k.val = _; rw [one_mul, zero_mul, zero_add]; rfl
  | ⟨1, _⟩ => show win0_3.index t 1 * 256 + 1 * n.val = _; rw [hi]; show t.val % 43 * 256 + 1 * n.val = _; rw [one_mul]; first | done | rfl

theorem bias (t : Fin cfg0.N) (k : Fin 1) (n : Fin 256) :
    (iblk m c 4 t : FVec Ideal S1x256 .f32) (ix2 k n)
      = (V m c main_v5 : FVec Ideal S1x11008 .f32) (ix2 k (col t.val n)) := by
  have hi := (index t).2.2.2.2.1
  unfold iblk
  rw [View.read_apply]
  show V m c main_v5 _ = _
  congr 1
  funext a
  apply Fin.ext
  match a with
  | ⟨0, _⟩ => show win0_4.index t 0 * 1 + 1 * k.val = _; rw [hi]; show 0 * 1 + 1 * k.val = _; rw [one_mul, zero_mul, zero_add]; rfl
  | ⟨1, _⟩ => show win0_4.index t 1 * 256 + 1 * n.val = _; rw [hi]; show t.val % 43 * 256 + 1 * n.val = _; rw [one_mul]; first | done | rfl

theorem padded_rows (R : Fin 8448) (k : Fin 4096) :
    (V m c main_v2 : FVec Ideal S8448x4096 .bf16) (ix2 R k) = Rows.row (argX m c) R k := by
  unfold V
  after_reads_at
  first | done | rfl

theorem weights (k : Fin 4096) (n : Fin 11008) :
    (V m c main_v3 : FVec Ideal S4096x11008 .bf16) (ix2 k n) = argG m c (ix2 k n) := by
  unfold V
  after_reads_at
  first | done | rfl

theorem weights2 (k : Fin 4096) (n : Fin 11008) :
    (V m c main_v4 : FVec Ideal S4096x11008 .bf16) (ix2 k n) = argU m c (ix2 k n) := by
  unfold V
  after_reads_at
  first | done | rfl

theorem tap (k : Fin 3) (n : Fin 11008) :
    (V m c main_arg3 : FVec Ideal S3x11008 .f32) (ix2 k n) = argW m c (ix2 k n) := by
  unfold V
  after_reads_at
  first | done | rfl

theorem offset (n : Fin 11008) :
    (V m c main_v5 : FVec Ideal S1x11008 .f32) (ix2 (0 : Fin 1) n) = argB m c (ix1 n) := by
  unfold V
  after_reads_at
  first | done | rfl

/-- A point's first product. -/
theorem act_at (t : ℕ) (ht : t < cfg0.N) (r : Fin 1408) (n : Fin 256) :
    (actAt (F := Ideal) m c t ht (ix2 r n) : EReal) = proj (argX m c) (argG m c) (t / 43 * 1408 + r.val) (col t n) := by
  have hr := r.isLt
  have h258 : t < 258 := lt ⟨t, ht⟩
  refine (act_apply (iblk m c 0 ⟨t, ht⟩) (iblk m c 1 ⟨t, ht⟩) r n).trans ?_
  unfold proj
  rw [dif_pos (by omega)]
  refine Finset.sum_congr rfl fun k _ => ?_
  rw [rows, columns, padded_rows, weights]

/-- A point's second product. -/
theorem up_at (t : Fin cfg0.N) (r : Fin 1408) (n : Fin 256) :
    (k0_pay3 (F := Ideal) (iblk m c 0 t) (iblk m c 2 t) (ix2 r n) : EReal) = proj (argX m c) (argU m c) (t.val / 43 * 1408 + r.val) (col t.val n) := by
  have hr := r.isLt
  have h258 : t.val < 258 := lt t
  refine (up_apply (iblk m c 0 t) (iblk m c 2 t) r n).trans ?_
  unfold proj
  rw [dif_pos (by omega)]
  refine Finset.sum_congr rfl fun k _ => ?_
  rw [rows, columns2, padded_rows, weights2]

/-- The rows a point below the first row of tiles reads before its own. -/
theorem before_at (t : ℕ) (ht : t < cfg0.N) (h : ¬ t < 43) (q : Fin 8) (n : Fin 256) :
    (tailAt (F := Ideal) m c t ht (ix3 (0 : Fin 1) q n) : EReal) = proj (argX m c) (argG m c) (t / 43 * 1408 - 8 + q.val) (col t n) := by
  have hq := q.isLt
  unfold tailAt lastRows
  rw [if_neg h]
  refine (last_apply _ q n).trans ((act_at m c (t - 43) _ _ n).trans ?_)
  have e1 : (t - 43) / 43 * 1408 + (1400 + q.val) = t / 43 * 1408 - 8 + q.val := by omega
  have e2 : col (t - 43) n = col t n := Fin.ext (by show (t - 43) % 43 * 256 + n.val = t % 43 * 256 + n.val; omega)
  rw [e2]
  exact congrArg (fun R => proj (argX m c) (argG m c) R (col t n)) e1

theorem prev1_at (t : Fin cfg0.N) (r : Fin 1408) (n : Fin 256) (h : 112 ≤ (t.val / 43 * 1408 + r.val) % 4224) :
    (k0_pay6 (F := Ideal) (iblk m c 0 t) (iblk m c 1 t) (tailAt (F := Ideal) m c t.val t.isLt) (ix2 r n) : EReal)
      = proj (argX m c) (argG m c) (t.val / 43 * 1408 + r.val - 1) (col t.val n) := by
  refine (prev1_apply _ _ _ r n).trans ?_
  by_cases k : 1 ≤ r.val
  · rw [dif_pos k]
    refine (act_at m c t.val t.isLt _ n).trans ?_
    exact congrArg (fun R => proj (argX m c) (argG m c) R (col t.val n)) (by show t.val / 43 * 1408 + (r.val - 1) = t.val / 43 * 1408 + r.val - 1; omega)
  · rw [dif_neg k]
    refine (before_at m c t.val t.isLt (by omega) _ n).trans ?_
    exact congrArg (fun R => proj (argX m c) (argG m c) R (col t.val n)) (by show t.val / 43 * 1408 - 8 + 7 = t.val / 43 * 1408 + r.val - 1; omega)

theorem prev2_at (t : Fin cfg0.N) (r : Fin 1408) (n : Fin 256) (h : 112 ≤ (t.val / 43 * 1408 + r.val) % 4224) :
    (Scalar.select (k0_pay9 (ix2 r n)) (k0_pay7 (F := Ideal) (iblk m c 0 t) (iblk m c 1 t) (ix2 r n))
        (k0_pay8 (F := Ideal) (tailAt (F := Ideal) m c t.val t.isLt) (ix2 r n)) : EReal)
      = proj (argX m c) (argG m c) (t.val / 43 * 1408 + r.val - 2) (col t.val n) := by
  rw [deep_apply]
  by_cases k : 2 ≤ r.val
  · rw [if_pos k]
    refine (prev2_apply (iblk m c 0 t) (iblk m c 1 t) r n k).trans ?_
    refine (act_at m c t.val t.isLt _ n).trans ?_
    exact congrArg (fun R => proj (argX m c) (argG m c) R (col t.val n)) (by show t.val / 43 * 1408 + (r.val - 2) = t.val / 43 * 1408 + r.val - 2; omega)
  · rw [if_neg k]
    refine (first_apply (tailAt (F := Ideal) m c t.val t.isLt) r n).trans ?_
    by_cases k' : r.val = 0
    · rw [if_pos k']
      refine (before_at m c t.val t.isLt (by omega) _ n).trans ?_
      exact congrArg (fun R => proj (argX m c) (argG m c) R (col t.val n)) (by show t.val / 43 * 1408 - 8 + 6 = t.val / 43 * 1408 + r.val - 2; omega)
    · rw [if_neg k']
      refine (before_at m c t.val t.isLt (by omega) _ n).trans ?_
      exact congrArg (fun R => proj (argX m c) (argG m c) R (col t.val n)) (by show t.val / 43 * 1408 - 8 + 7 = t.val / 43 * 1408 + r.val - 2; omega)

/-- A claimed row of a point's block. -/
theorem block_value (t : Fin cfg0.N) (r : Fin 1408) (n : Fin 256) (h : 112 ≤ (t.val / 43 * 1408 + r.val) % 4224) :
    (outG (F := Ideal) m c t (ix2 r n) : EReal)
      = value (argX m c) (argG m c) (argU m c) (argW m c) (argB m c) (t.val / 43 * 1408 + r.val) (col t.val n) := by
  unfold outG ffnOut
  refine (mix_apply _ _ _ _ _ _ _ _ r n).trans ?_
  rw [prev1_at m c t r n h, prev2_at m c t r n h, up_at]
  have a := act_at m c t.val t.isLt r n
  unfold actAt at a
  rw [a]
  rw [taps, taps, taps, bias, tap, tap, tap, offset]
  rfl

/-- The first result array at an index of a point's block. -/
theorem result_at (t : Fin cfg0.N) (r : Fin 1408) (n : Fin 256) :
    @Eq EReal (((dats m 0 c).arrAt 5 cfg0.N : FVec Ideal S8448x11008 .bf16)
        (ix2 ⟨t.val / 43 * 1408 + r.val, by have := lt t; omega⟩ (col t.val n)))
      (outG (F := Ideal) m c t (ix2 r n)) := by
  have hi := (index t).2.2.2.2.2.1
  have h := congrFun ((blocks5 m c t).trans (flushed5 m c t)) (ix2 r n)
  rw [View.read_apply] at h
  refine Eq.trans ?_ (h.trans ?_)
  · show (dats m 0 c).arrAt 5 cfg0.N _ = (dats m 0 c).arrAt 5 cfg0.N _
    congr 1
    funext a
    apply Fin.ext
    match a with
    | ⟨0, _⟩ => show _ = win0_5.index t 0 * 1408 + 1 * r.val; rw [hi]; show _ = t.val / 43 * 1408 + 1 * r.val; rw [one_mul]; first | done | rfl
    | ⟨1, _⟩ => show _ = win0_5.index t 1 * 256 + 1 * n.val; rw [hi]; show _ = t.val % 43 * 256 + 1 * n.val; rw [one_mul]; first | done | rfl
  · rfl

/-- The second result array at an index of a point's block. -/
theorem tails_at (t : Fin cfg0.N) (q : Fin 8) (n : Fin 256) :
    @Eq EReal (((dats m 0 c).arrAt 6 cfg0.N : FVec Ideal S6x8x11008 .f32)
        (ix3 ⟨t.val / 43, by have := lt t; omega⟩ q (col t.val n)))
      (outT (F := Ideal) m c t (ix3 (0 : Fin 1) q n)) := by
  have hi := (index t).2.2.2.2.2.2
  have h := congrFun ((blocks6 m c t).trans (flushed6 m c t)) (ix3 (0 : Fin 1) q n)
  rw [View.read_apply] at h
  refine Eq.trans ?_ (h.trans ?_)
  · show (dats m 0 c).arrAt 6 cfg0.N _ = (dats m 0 c).arrAt 6 cfg0.N _
    congr 1
    funext a
    apply Fin.ext
    match a with
    | ⟨0, _⟩ => show _ = win0_6.index t 0 * 1 + 1 * (0 : Fin 1).val; rw [hi]; show t.val / 43 = t.val / 43 * 1 + 1 * 0; omega
    | ⟨1, _⟩ => show _ = win0_6.index t 1 * 8 + 1 * q.val; rw [hi]; show q.val = 0 * 8 + 1 * q.val; omega
    | ⟨2, _⟩ => show _ = win0_6.index t 2 * 256 + 1 * n.val; rw [hi]; show _ = t.val % 43 * 256 + 1 * n.val; rw [one_mul]; first | done | rfl
  · rfl

/-- The reference's results of the launch's arguments. -/
noncomputable abbrev plainG : FVec Ideal S8448x11008 .bf16 :=
  FfnPlain.gated (FfnPlain.conv (FfnPlain.ext (argX m c) (argG m c)) (argW m c) (argB m c)) (FfnPlain.up (argX m c) (argU m c))
noncomputable abbrev plainT : FVec Ideal S6x8x11008 .f32 := FfnPlain.tails (FfnPlain.ext (argX m c) (argG m c))

/-- The launch's claimed rows are the reference's. -/
theorem same (R : Fin 8448) (n : Fin 11008) (hR : 112 ≤ R.val % 4224) :
    @Eq EReal (((dats m 0 c).arrAt 5 cfg0.N : FVec Ideal S8448x11008 .bf16) (ix2 R n)) (plainG m c (ix2 R n)) := by
  have ht : R.val / 1408 * 43 + n.val / 256 < cfg0.N := lt_of_lt_of_eq (by omega) N_0.symm
  have e1 : (R.val / 1408 * 43 + n.val / 256) / 43 * 1408 + R.val % 1408 = R.val := by omega
  have e2 : col (R.val / 1408 * 43 + n.val / 256) ⟨n.val % 256, Nat.mod_lt _ (by norm_num)⟩ = n :=
    Fin.ext (by show (R.val / 1408 * 43 + n.val / 256) % 43 * 256 + n.val % 256 = n.val; omega)
  have h := (result_at m c ⟨R.val / 1408 * 43 + n.val / 256, ht⟩ ⟨R.val % 1408, Nat.mod_lt _ (by norm_num)⟩ ⟨n.val % 256, Nat.mod_lt _ (by norm_num)⟩).trans
    (block_value m c ⟨R.val / 1408 * 43 + n.val / 256, ht⟩ ⟨R.val % 1408, Nat.mod_lt _ (by norm_num)⟩ ⟨n.val % 256, Nat.mod_lt _ (by norm_num)⟩
      (by show 112 ≤ ((R.val / 1408 * 43 + n.val / 256) / 43 * 1408 + R.val % 1408) % 4224; rw [e1]; exact hR))
  refine Eq.trans ?_ ((h.trans ?_).trans (plain_value (argX m c) (argG m c) (argU m c) (argW m c) (argB m c) R n hR).symm)
  · exact congrArg ((dats m 0 c).arrAt 5 cfg0.N : FVec Ideal S8448x11008 .bf16) (congrArg₂ ix2 (Fin.ext e1.symm) e2.symm)
  · exact congrArg₂ (value (argX m c) (argG m c) (argU m c) (argW m c) (argB m c)) e1 e2

/-- The launch's claimed last rows are the reference's. -/
theorem same_tails (T : Fin 6) (q : Fin 8) (n : Fin 11008) (hT : T.val % 3 = 2) (hq : 6 ≤ q.val) :
    @Eq EReal (((dats m 0 c).arrAt 6 cfg0.N : FVec Ideal S6x8x11008 .f32) (ix3 T q n)) (plainT m c (ix3 T q n)) := by
  have hq' := q.isLt
  have ht : T.val * 43 + n.val / 256 < cfg0.N := lt_of_lt_of_eq (by omega) N_0.symm
  have e1 : (T.val * 43 + n.val / 256) / 43 = T.val := by omega
  have e3 : (T.val * 43 + n.val / 256) / 43 * 1408 + (1400 + q.val) = T.val * 1408 + 1400 + q.val := by omega
  have e2 : col (T.val * 43 + n.val / 256) ⟨n.val % 256, Nat.mod_lt _ (by norm_num)⟩ = n :=
    Fin.ext (by show (T.val * 43 + n.val / 256) % 43 * 256 + n.val % 256 = n.val; omega)
  have h := (tails_at m c ⟨T.val * 43 + n.val / 256, ht⟩ q ⟨n.val % 256, Nat.mod_lt _ (by norm_num)⟩).trans
    ((tail_apply _ q ⟨n.val % 256, Nat.mod_lt _ (by norm_num)⟩).trans (act_at m c (T.val * 43 + n.val / 256) ht _ _))
  refine Eq.trans ?_ ((h.trans ?_).trans (plain_tails (argX m c) (argG m c) T q n hT hq).symm)
  · exact congrArg ((dats m 0 c).arrAt 6 cfg0.N : FVec Ideal S6x8x11008 .f32) (congrArg₂ (fun a b => ix3 a q b) (Fin.ext e1.symm) e2.symm)
  · exact congrArg₂ (proj (argX m c) (argG m c)) e3 e2

end Launch

section Rows

open Cert.On_tokens2

theorem onFacts : Cert.On_tokens2.Facts where
  bcast_S_S8448x11008 := by decide
  bcast_S_S6x8x11008 := by decide

variable (x : FVec Ideal Cert.On_tokens2.S2x4112x4096 .f32) (w u : FVec Ideal Cert.On_tokens2.S4096x11008 .f32)
  (cw : FVec Ideal Cert.On_tokens2.S3x11008 .f32) (cb : FVec Ideal Cert.On_tokens2.S11008 .f32)

theorem rem_rows : ∀ R : Fin 8448, IntOp.cmpi .sge (IntOp.remsi .host (BitVec.ofNat 32 R.val) 4224#32) 112#32 = 1#1 → 112 ≤ R.val % 4224 := by
  decide +kernel

theorem rem_tiles : ∀ (T : Fin 6) (q : Fin 8), IntOp.andi (IntOp.cmpi .eq (IntOp.remsi .host (BitVec.ofNat 32 T.val) 3#32) 2#32)
    (IntOp.cmpi .sge (BitVec.ofNat 32 q.val) 6#32) = 1#1 → T.val % 3 = 2 ∧ 6 ≤ q.val := by
  decide +kernel

/-- The claimed rows of the first result. -/
theorem on (R : Fin 8448) (n : Fin 11008) (h : (@Cert.On_tokens2.fn onFacts Ideal _ x w u cw cb).1 (ix2 R n) = 1#1) : 112 ≤ R.val % 4224 := by
  refine rem_rows R ?_
  rw [← h]
  unfold Cert.On_tokens2.fn
  pointwise

/-- The claimed rows of the second. -/
theorem on_tails (T : Fin 6) (q : Fin 8) (n : Fin 11008) (h : (@Cert.On_tokens2.fn onFacts Ideal _ x w u cw cb).2 (ix3 T q n) = 1#1) :
    T.val % 3 = 2 ∧ 6 ≤ q.val := by
  refine rem_tiles T q ?_
  rw [← h]
  unfold Cert.On_tokens2.fn
  pointwise

end Rows

end Cert.Proof.Ffn
-- ==== Proof.lean ====
/- The claims of `Cert.Claim`: the frames, the idealizations, and the equality of each call with its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import proofs.«01_k».proof.Proof.Project
public import proofs.«01_k».proof.Proof.Gates
public import proofs.«01_k».proof.Proof.Down
public import proofs.«01_k».proof.Proof.MixOut
public import proofs.«01_k».proof.Proof.FfnFrame
public import proofs.«01_k».proof.Proof.FfnFrameIdeal
public import proofs.«01_k».proof.Proof.Ffn
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.On_tokens2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite
public import proofs.«01_k».proof.Proof.Gen.On_tokens
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_on_tokens_pre_finite (hKernelIdeal := Cert.KernelIdeal.Gen.facts)
    (hReferenceIdeal := Cert.ReferenceIdeal.Gen.facts) (hPre_finite := Cond.preFacts) (hOn_tokens := Cond.onFacts) := by
  intro m g m' g' hpre hargs
  refine ⟨fun c => Attend.out m c, ?_, ?_⟩
  · refine (θ_run _ _ _).mono (fun r h c => ?_) (Cert.KernelIdeal.Value.run_blocks (F := Ideal) m g)
    obtain ⟨h1, h2⟩ := h c
    exact ⟨fun i _ => congrFun h1 i, h2⟩
  · refine (θ_run _ _ _).mono (fun r h c => ?_) (Cert.ReferenceIdeal.Value.run (F := Ideal) m' g')
    obtain ⟨h1, h2⟩ := h c
    refine ⟨fun i hi => ?_, h2⟩
    obtain ⟨R, N, rfl⟩ : ∃ (R : Fin 8448) (N : Fin 4096), i = ix2 R N := ⟨i 0, i 1, by funext a; match a with | ⟨0, _⟩ => rfl | ⟨1, _⟩ => rfl⟩
    obtain ⟨p1, p2, p3⟩ := Cond.pre _ _ _ _ _ (hpre c)
    obtain ⟨a0, a1, a2, a3, a4⟩ := hargs c
    exact (congrFun h1 (ix2 R N)).trans
      (Agree.agree m c m' c a0.symm a1.symm a2.symm a3.symm a4.symm p1 p2 p3 R N (Cond.on _ _ _ _ _ R N hi)).symm

theorem algebraic2 : Cert.algebraic_Kernel2Ideal_Reference2Ideal_on_tokens2 (hKernel2Ideal := Cert.Kernel2Ideal.Gen.facts)
    (hReference2Ideal := Cert.Reference2Ideal.Gen.facts) (hOn_tokens2 := Ffn.onFacts) := by
  intro m g m' g' _ hargs
  refine ⟨fun c => Ffn.plainG m c, fun c => Ffn.plainT m c, ?_, ?_⟩
  · refine (θ_run _ _ _).mono (fun r h c => ?_) (Cert.Kernel2Ideal.Gen.run_blocks (F := Ideal) m g)
    obtain ⟨h1, h2, h3⟩ := h c
    refine ⟨fun i hi => ?_, fun i hi => ?_, h3⟩
    · obtain ⟨R, N, rfl⟩ : ∃ (R : Fin 8448) (N : Fin 11008), i = ix2 R N := ⟨i 0, i 1, by funext a; match a with | ⟨0, _⟩ => rfl | ⟨1, _⟩ => rfl⟩
      exact (congrFun h1 (ix2 R N)).trans (Ffn.same m c R N (Ffn.on _ _ _ _ _ R N hi))
    · obtain ⟨T, q, N, rfl⟩ : ∃ (T : Fin 6) (q : Fin 8) (N : Fin 11008), i = ix3 T q N :=
        ⟨i 0, i 1, i 2, by funext a; match a with | ⟨0, _⟩ => rfl | ⟨1, _⟩ => rfl | ⟨2, _⟩ => rfl⟩
      obtain ⟨hT, hq⟩ := Ffn.on_tails _ _ _ _ _ T q N hi
      exact (congrFun h2 (ix3 T q N)).trans (Ffn.same_tails m c T q N hT hq)
  · refine (θ_run _ _ _).mono (fun r h c => ?_) (Cert.Reference2Ideal.Value.run (F := Ideal) m' g')
    obtain ⟨h1, h2, h3⟩ := h c
    obtain ⟨a0, a1, a2, a3, a4⟩ := hargs c
    refine ⟨fun i _ => congrFun (h1.trans ?_) i, fun i _ => congrFun (h2.trans ?_) i, h3⟩
    · rw [FfnPlain.result0, a0, a1, a2, a3, a4]
    · rw [a0, a1]
      rfl

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Project.plain (Project.argX m c) (Project.argW m c), ?_, ?_⟩
  · refine (θ_run _ _ _).mono (fun r h c => ?_) (Cert.Kernel3Ideal.Value.run_blocks (F := Ideal) m g)
    obtain ⟨h1, h2⟩ := h c
    exact ⟨h1.trans (Project.same m c), h2⟩
  · refine (θ_run _ _ _).mono (fun r h c => ?_) (Cert.Reference3Ideal.Value.run (F := Ideal) m' g')
    obtain ⟨h1, h2⟩ := h c
    obtain ⟨a0, a1⟩ := hargs c
    refine ⟨h1.trans ?_, h2⟩
    rw [a0, a1]
    rfl

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Gates.plain (Gates.argX m c) (Gates.argW m c), ?_, ?_⟩
  · refine (θ_run _ _ _).mono (fun r h c => ?_) (Cert.Kernel4Ideal.Value.run_blocks (F := Ideal) m g)
    obtain ⟨h1, h2⟩ := h c
    exact ⟨h1.trans (Gates.same m c), h2⟩
  · refine (θ_run _ _ _).mono (fun r h c => ?_) (Cert.Reference4Ideal.Value.run (F := Ideal) m' g')
    obtain ⟨h1, h2⟩ := h c
    obtain ⟨a0, a1⟩ := hargs c
    refine ⟨h1.trans ?_, h2⟩
    rw [a0, a1]
    rfl

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Down.plain (Down.argX m c) (Down.argW m c), ?_, ?_⟩
  · refine (θ_run _ _ _).mono (fun r h c => ?_) (Cert.Kernel5Ideal.Value.run_blocks (F := Ideal) m g)
    obtain ⟨h1, h2⟩ := h c
    exact ⟨h1.trans (Down.same m c), h2⟩
  · refine (θ_run _ _ _).mono (fun r h c => ?_) (Cert.Reference5Ideal.Value.run (F := Ideal) m' g')
    obtain ⟨h1, h2⟩ := h c
    obtain ⟨a0, a1⟩ := hargs c
    refine ⟨h1.trans ?_, h2⟩
    rw [a0, a1]
    rfl

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => MixOut.plain (MixOut.argX m c) (MixOut.argW m c), ?_, ?_⟩
  · refine (θ_run _ _ _).mono (fun r h c => ?_) (Cert.Kernel6Ideal.Value.run_blocks (F := Ideal) m g)
    obtain ⟨h1, h2⟩ := h c
    exact ⟨h1.trans (MixOut.same m c), h2⟩
  · refine (θ_run _ _ _).mono (fun r h c => ?_) (Cert.Reference6Ideal.Value.run (F := Ideal) m' g')
    obtain ⟨h1, h2⟩ := h c
    obtain ⟨a0, a1⟩ := hargs c
    refine ⟨h1.trans ?_, h2⟩
    rw [a0, a1]
    rfl

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cond.preFacts, Cond.onFacts, Ffn.onFacts,
    ?_, ?_, ?_, ?_, ?_, ?_, ?_, ?_, ?_, ?_, ?_, ?_, ?_, ?_, ?_, ?_, ?_, ?_, ?_, ?_, ?_, algebraic, trivial, algebraic2, trivial, algebraic3, trivial, algebraic4, trivial, algebraic5, trivial, algebraic6⟩
  · exact fun m ρ _ => Cert.Kernel.Gen.frame m ρ
  · exact fun m ρ _ => Cert.KernelIdeal.Gen.frame m ρ
  · exact fun m ρ _ => Cert.KernelIdeal.Gen.frame m ρ
  · exact fun m ρ _ => (θ_run _ _ _).mono (fun r h => ⟨fun c => (h c).2, Idealize.ShloMosaic.sem_eq_zero_of_no_sems (by decide) r.2⟩)
      (Cert.ReferenceIdeal.Value.run (F := Ideal) m ρ)
  · exact fun m ρ _ => (θ_run _ _ _).mono (fun r h => ⟨fun c => (h c).2, Idealize.ShloMosaic.sem_eq_zero_of_no_sems (by decide) r.2⟩)
      (Cert.ReferenceIdeal.Value.run (F := Ideal) m ρ)
  · exact fun m ρ _ => Cert.Kernel2.Gen.frame m ρ
  · exact fun m ρ _ => Cert.Kernel2Ideal.Gen.frame m ρ
  · exact fun m ρ _ => (θ_run _ _ _).mono (fun r h => ⟨fun c => (h c).2.2, Idealize.ShloMosaic.sem_eq_zero_of_no_sems (by decide) r.2⟩)
      (Cert.Reference2Ideal.Value.run (F := Ideal) m ρ)
  · exact fun m ρ _ => Cert.Kernel3.Gen.frame m ρ
  · exact fun m ρ _ => Cert.Kernel3Ideal.Gen.frame m ρ
  · exact fun m ρ _ => (θ_run _ _ _).mono (fun r h => ⟨fun c => (h c).2, Idealize.ShloMosaic.sem_eq_zero_of_no_sems (by decide) r.2⟩)
      (Cert.Reference3Ideal.Value.run (F := Ideal) m ρ)
  · exact fun m ρ _ => Cert.Kernel4.Gen.frame m ρ
  · exact fun m ρ _ => Cert.Kernel4Ideal.Gen.frame m ρ
  · exact fun m ρ _ => (θ_run _ _ _).mono (fun r h => ⟨fun c => (h c).2, Idealize.ShloMosaic.sem_eq_zero_of_no_sems (by decide) r.2⟩)
      (Cert.Reference4Ideal.Value.run (F := Ideal) m ρ)
  · exact fun m ρ _ => Cert.Kernel5.Gen.frame m ρ
  · exact fun m ρ _ => Cert.Kernel5Ideal.Gen.frame m ρ
  · exact fun m ρ _ => (θ_run _ _ _).mono (fun r h => ⟨fun c => (h c).2, Idealize.ShloMosaic.sem_eq_zero_of_no_sems (by decide) r.2⟩)
      (Cert.Reference5Ideal.Value.run (F := Ideal) m ρ)
  · exact fun m ρ _ => Cert.Kernel6.Gen.frame m ρ
  · exact fun m ρ _ => Cert.Kernel6Ideal.Gen.frame m ρ
  · exact fun m ρ _ => (θ_run _ _ _).mono (fun r h => ⟨fun c => (h c).2, Idealize.ShloMosaic.sem_eq_zero_of_no_sems (by decide) r.2⟩)
      (Cert.Reference6Ideal.Value.run (F := Ideal) m ρ)
  · exact IdealRules.named_const.statement Cert.KernelIdeal.κ "scale" .f32 0x3E0293EE#32
      (((Real.sqrt 128)⁻¹ * (Real.log 2)⁻¹ : ℝ) : EReal) rfl

end Cert.Proof

end
